-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_finite_data : Cert.Pre_finite_data.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S256x4096 : Shape := ⟨2, ![256, 4096]⟩
abbrev S256 : Shape := ⟨1, ![256]⟩
abbrev S3072 : Shape := ⟨1, ![3072]⟩
abbrev S3072x2 : Shape := ⟨2, ![3072, 2]⟩
abbrev S25x4096x768 : Shape := ⟨3, ![25, 4096, 768]⟩
abbrev S25x768 : Shape := ⟨2, ![25, 768]⟩
abbrev S4096x768 : Shape := ⟨2, ![4096, 768]⟩
abbrev S768 : Shape := ⟨1, ![768]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S25x4096x768 : S_.BroadcastsInDim S25x4096x768 (![] : Fin 0 → Fin S25x4096x768.rank)
  reducesTo_S25x4096x768_S_d0_1_2 : S25x4096x768.ReducesTo [0, 1, 2] S_
  bcast_S_S256 : S_.BroadcastsInDim S256 (![] : Fin 0 → Fin S256.rank)
  reducesTo_S256_S_d0 : S256.ReducesTo [0] S_
  bcast_S_S25x768 : S_.BroadcastsInDim S25x768 (![] : Fin 0 → Fin S25x768.rank)
  reducesTo_S25x768_S_d0_1 : S25x768.ReducesTo [0, 1] S_
  bcast_S_S3072x2 : S_.BroadcastsInDim S3072x2 (![] : Fin 0 → Fin S3072x2.rank)
  reducesTo_S3072x2_S_d0_1 : S3072x2.ReducesTo [0, 1] S_

variable [Facts]

def fn_part2 {F : FTy → Type} [FloatOps F] (main_arg4 : FVec F S3072x2 .f32) (main_v31 : IVec S_ 1) (main_v32 : FVec F S25x768 .f32) (main_cst_12 : FVec F S_ .f32) : IVec S_ 1 :=
  let main_v33 : FVec F S25x768 .f32 := broadcastInDim S25x768 ![] bcast_S_S25x768 main_cst_12
  let main_v34 : IVec S25x768 1 := cmpf .olt main_v32 main_v33
  let main_c_13 : IVec S_ 1 := constantI S_ 1 1#1
  let main_v35 : IVec S_ 1 := (fun x v => Host.reduce IntOp.andi x v reducesTo_S25x768_S_d0_1 h_S_) main_v34 main_c_13
  let main_v36 : IVec S_ 1 := andi main_v31 main_v35
  let main_v37 : FVec F S3072x2 .f32 := Host.absf main_arg4
  let main_cst_14 : FVec F S_ .f32 := constant S_ .f32 0x7F800000#32
  let main_v38 : FVec F S3072x2 .f32 := broadcastInDim S3072x2 ![] bcast_S_S3072x2 main_cst_14
  let main_v39 : IVec S3072x2 1 := cmpf .olt main_v37 main_v38
  let main_c_15 : IVec S_ 1 := constantI S_ 1 1#1
  let main_v40 : IVec S_ 1 := (fun x v => Host.reduce IntOp.andi x v reducesTo_S3072x2_S_d0_1 h_S_) main_v39 main_c_15
  let main_v41 : IVec S_ 1 := andi main_v36 main_v40
  main_v41

def fn_part1 {F : FTy → Type} [FloatOps F] (main_arg0 : IVec S256x4096 8) (main_arg1 : FVec F S256 .f32) (main_arg4 : FVec F S3072x2 .f32) (main_arg5 : IVec S25x4096x768 8) (main_arg6 : FVec F S25x768 .f32) (main_v12 : IVec S_ 1) (main_v14 : IVec S256x4096 1) (main_v15 : IVec S256x4096 8) : IVec S_ 1 :=
  let main_v16 : IVec S256x4096 1 := cmpi .ne main_arg0 main_v15
  let main_v17 : IVec S256x4096 1 := andi main_v14 main_v16
  let main_c_7 : IVec S_ 1 := constantI S_ 1 1#1
  let main_v18 : IVec S_ 1 := (fun x v => Host.reduce IntOp.andi x v reducesTo_S256x4096_S_d0_1 h_S_) main_v17 main_c_7
  let main_v19 : IVec S_ 1 := andi main_v12 main_v18
  let main_c_8 : IVec S_ 8 := constantI S_ 8 127#8
  let main_v20 : IVec S25x4096x768 8 := broadcastInDim S25x4096x768 ![] bcast_S_S25x4096x768 main_c_8
  let main_v21 : IVec S25x4096x768 1 := cmpi .ne main_arg5 main_v20
  let main_c_9 : IVec S_ 8 := constantI S_ 8 255#8
  let main_v22 : IVec S25x4096x768 8 := broadcastInDim S25x4096x768 ![] bcast_S_S25x4096x768 main_c_9
  let main_v23 : IVec S25x4096x768 1 := cmpi .ne main_arg5 main_v22
  let main_v24 : IVec S25x4096x768 1 := andi main_v21 main_v23
  let main_c_10 : IVec S_ 1 := constantI S_ 1 1#1
  let main_v25 : IVec S_ 1 := (fun x v => Host.reduce IntOp.andi x v reducesTo_S25x4096x768_S_d0_1_2 h_S_) main_v24 main_c_10
  let main_v26 : IVec S_ 1 := andi main_v19 main_v25
  let main_v27 : FVec F S256 .f32 := Host.absf main_arg1
  let main_cst : FVec F S_ .f32 := constant S_ .f32 0x7F800000#32
  let main_v28 : FVec F S256 .f32 := broadcastInDim S256 ![] bcast_S_S256 main_cst
  let main_v29 : IVec S256 1 := cmpf .olt main_v27 main_v28
  let main_c_11 : IVec S_ 1 := constantI S_ 1 1#1
  let main_v30 : IVec S_ 1 := (fun x v => Host.reduce IntOp.andi x v reducesTo_S256_S_d0 h_S_) main_v29 main_c_11
  let main_v31 : IVec S_ 1 := andi main_v26 main_v30
  let main_v32 : FVec F S25x768 .f32 := Host.absf main_arg6
  let main_cst_12 : FVec F S_ .f32 := constant S_ .f32 0x7F800000#32
  fn_part2 (F := F) main_arg4 main_v31 main_v32 main_cst_12

def fn {F : FTy → Type} [FloatOps F] (main_arg0 : IVec S256x4096 8) (main_arg1 : FVec F S256 .f32) (main_arg2 : IVec S3072 32) (main_arg3 : IVec S3072 32) (main_arg4 : FVec F S3072x2 .f32) (main_arg5 : IVec S25x4096x768 8) (main_arg6 : FVec F S25x768 .f32) (main_arg7 : FVec F S4096x768 .fp8e4m3) (main_arg8 : FVec F S768 .f32) (main_arg9 : FVec F S768 .f32) : IVec S_ 1 :=
  let main_c : IVec S_ 32 := constantI S_ 32 0#32
  let main_v0 : IVec S3072 32 := broadcastInDim S3072 ![] bcast_S_S3072 main_c
  let main_v1 : IVec S3072 1 := cmpi .sge main_arg3 main_v0
  let main_c_0 : IVec S_ 32 := constantI S_ 32 256#32
  let main_v2 : IVec S3072 32 := broadcastInDim S3072 ![] bcast_S_S3072 main_c_0
  let main_v3 : IVec S3072 1 := cmpi .slt main_arg3 main_v2
  let main_v4 : IVec S3072 1 := andi main_v1 main_v3
  let main_c_1 : IVec S_ 1 := constantI S_ 1 1#1
  let main_v5 : IVec S_ 1 := (fun x v => Host.reduce IntOp.andi x v reducesTo_S3072_S_d0 h_S_) main_v4 main_c_1
  let main_c_2 : IVec S_ 32 := constantI S_ 32 7#32
  let main_v6 : IVec S3072 32 := broadcastInDim S3072 ![] bcast_S_S3072 main_c_2
  let main_v7 : IVec S3072 32 := Host.shrsi main_arg2 main_v6
  let main_c_3 : IVec S_ 32 := constantI S_ 32 7#32
  let main_v8 : IVec S3072 32 := broadcastInDim S3072 ![] bcast_S_S3072 main_c_3
  let main_v9 : IVec S3072 32 := Host.shrsi main_arg3 main_v8
  let main_v10 : IVec S3072 1 := cmpi .eq main_v7 main_v9
  let main_c_4 : IVec S_ 1 := constantI S_ 1 1#1
  let main_v11 : IVec S_ 1 := (fun x v => Host.reduce IntOp.andi x v reducesTo_S3072_S_d0 h_S_) main_v10 main_c_4
  let main_v12 : IVec S_ 1 := andi main_v5 main_v11
  let main_c_5 : IVec S_ 8 := constantI S_ 8 127#8
  let main_v13 : IVec S256x4096 8 := broadcastInDim S256x4096 ![] bcast_S_S256x4096 main_c_5
  let main_v14 : IVec S256x4096 1 := cmpi .ne main_arg0 main_v13
  let main_c_6 : IVec S_ 8 := constantI S_ 8 255#8
  let main_v15 : IVec S256x4096 8 := broadcastInDim S256x4096 ![] bcast_S_S256x4096 main_c_6
  fn_part1 (F := F) main_arg0 main_arg1 main_arg4 main_arg5 main_arg6 main_v12 main_v14 main_v15
-- ==== Pre_targets_in_range.lean ====
abbrev S256x4096 : Shape := ⟨2, ![256, 4096]⟩
abbrev S256 : Shape := ⟨1, ![256]⟩
abbrev S3072 : Shape := ⟨1, ![3072]⟩
abbrev S3072x2 : Shape := ⟨2, ![3072, 2]⟩
abbrev S25x4096x768 : Shape := ⟨3, ![25, 4096, 768]⟩
abbrev S25x768 : Shape := ⟨2, ![25, 768]⟩
abbrev S4096x768 : Shape := ⟨2, ![4096, 768]⟩
abbrev S768 : Shape := ⟨1, ![768]⟩
abbrev S_ : Shape := ⟨0, ![]⟩

class Facts : Prop where
  bcast_S_S3072 : S_.BroadcastsInDim S3072 (![] : Fin 0 → Fin S3072.rank)
  reducesTo_S3072_S_d0 : S3072.ReducesTo [0] S_
  h_S_ : 0 < S_.numel

variable [Facts]

def fn {F : FTy → Type} [FloatOps F] (main_arg0 : IVec S256x4096 8) (main_arg1 : FVec F S256 .f32) (main_arg2 : IVec S3072 32) (main_arg3 : IVec S3072 32) (main_arg4 : FVec F S3072x2 .f32) (main_arg5 : IVec S25x4096x768 8) (main_arg6 : FVec F S25x768 .f32) (main_arg7 : FVec F S4096x768 .fp8e4m3) (main_arg8 : FVec F S768 .f32) (main_arg9 : FVec F S768 .f32) : IVec S_ 1 :=
  let main_c : IVec S_ 32 := constantI S_ 32 0#32
  let main_v0 : IVec S3072 32 := broadcastInDim S3072 ![] bcast_S_S3072 main_c
  let main_v1 : IVec S3072 1 := cmpi .sge main_arg3 main_v0
  let main_c_0 : IVec S_ 32 := constantI S_ 32 256#32
  let main_v2 : IVec S3072 32 := broadcastInDim S3072 ![] bcast_S_S3072 main_c_0
  let main_v3 : IVec S3072 1 := cmpi .slt main_arg3 main_v2
  let main_v4 : IVec S3072 1 := andi main_v1 main_v3
  let main_c_1 : IVec S_ 1 := constantI S_ 1 1#1
  let main_v5 : IVec S_ 1 := (fun x v => Host.reduce IntOp.andi x v reducesTo_S3072_S_d0 h_S_) main_v4 main_c_1
  main_v5
-- ==== Kernel.lean ====
abbrev S256x4096 : Shape := ⟨2, ![256, 4096]⟩
abbrev S256 : Shape := ⟨1, ![256]⟩
abbrev S3072 : Shape := ⟨1, ![3072]⟩
abbrev S3072x2 : Shape := ⟨2, ![3072, 2]⟩
abbrev S25x4096x768 : Shape := ⟨3, ![25, 4096, 768]⟩
abbrev S25x768 : Shape := ⟨2, ![25, 768]⟩
abbrev S4096x768 : Shape := ⟨2, ![4096, 768]⟩
abbrev S768 : Shape := ⟨1, ![768]⟩
abbrev S2x3072 : Shape := ⟨2, ![2, 3072]⟩
abbrev S2x24x128 : Shape := ⟨3, ![2, 24, 128]⟩
abbrev S2x128 : Shape := ⟨2, ![2, 128]⟩
abbrev S256x1 : Shape := ⟨2, ![256, 1]⟩
abbrev S1x768 : Shape := ⟨2, ![1, 768]⟩
abbrev S256x768 : Shape := ⟨2, ![256, 768]⟩
abbrev S1x4096x768 : Shape := ⟨3, ![1, 4096, 768]⟩
abbrev S3072x128 : Shape := ⟨2, ![3072, 128]⟩
abbrev S8x128 : Shape := ⟨2, ![8, 128]⟩
abbrev S8192x128 : Shape := ⟨2, ![8192, 128]⟩
abbrev S8448x128 : Shape := ⟨2, ![8448, 128]⟩
abbrev S32x128 : Shape := ⟨2, ![32, 128]⟩
abbrev S1x1x128 : Shape := ⟨3, ![1, 1, 128]⟩
abbrev S1x128 : Shape := ⟨2, ![1, 128]⟩
abbrev S128x128 : Shape := ⟨2, ![128, 128]⟩
abbrev S1 : Shape := ⟨1, ![1]⟩
abbrev S128x768 : Shape := ⟨2, ![128, 768]⟩
abbrev S128x256 : Shape := ⟨2, ![128, 256]⟩
abbrev S256x256 : Shape := ⟨2, ![256, 256]⟩
abbrev S256x128 : Shape := ⟨2, ![256, 128]⟩

abbrev nBuf : Space → Nat
  | .hbm => 20
  | .vmem => 17
  | .smem => 2
  | _ => 0

abbrev bufTy : (tb : Table) → Fin (tcTables nBuf tb) → BufTy
  | .hbm, ⟨0, _⟩ => ⟨S256x4096, .i8⟩
  | .hbm, ⟨1, _⟩ => ⟨S256, .f32⟩
  | .hbm, ⟨2, _⟩ => ⟨S3072, .i32⟩
  | .hbm, ⟨3, _⟩ => ⟨S3072, .i32⟩
  | .hbm, ⟨4, _⟩ => ⟨S3072x2, .f32⟩
  | .hbm, ⟨5, _⟩ => ⟨S25x4096x768, .i8⟩
  | .hbm, ⟨6, _⟩ => ⟨S25x768, .f32⟩
  | .hbm, ⟨7, _⟩ => ⟨S4096x768, .fp8e4m3⟩
  | .hbm, ⟨8, _⟩ => ⟨S768, .f32⟩
  | .hbm, ⟨9, _⟩ => ⟨S768, .f32⟩
  | .hbm, ⟨10, _⟩ => ⟨S256x4096, .fp8e4m3⟩
  | .hbm, ⟨11, _⟩ => ⟨S25x4096x768, .fp8e4m3⟩
  | .hbm, ⟨12, _⟩ => ⟨S2x3072, .f32⟩
  | .hbm, ⟨13, _⟩ => ⟨S2x24x128, .f32⟩
  | .hbm, ⟨14, _⟩ => ⟨S2x128, .f32⟩
  | .hbm, ⟨15, _⟩ => ⟨S256x1, .f32⟩
  | .hbm, ⟨16, _⟩ => ⟨S1x768, .f32⟩
  | .hbm, ⟨17, _⟩ => ⟨S1x768, .f32⟩
  | .hbm, ⟨18, _⟩ => ⟨S256x768, .bf16⟩
  | .hbm, ⟨19, _⟩ => ⟨S256x768, .f32⟩
  | .local _ .vmem, ⟨0, _⟩ => ⟨S2x24x128, .f32⟩
  | .local _ .vmem, ⟨1, _⟩ => ⟨S2x128, .f32⟩
  | .local _ .vmem, ⟨2, _⟩ => ⟨S256x1, .f32⟩
  | .local _ .vmem, ⟨3, _⟩ => ⟨S256x4096, .fp8e4m3⟩
  | .local _ .vmem, ⟨4, _⟩ => ⟨S1x4096x768, .fp8e4m3⟩
  | .local _ .vmem, ⟨5, _⟩ => ⟨S1x4096x768, .fp8e4m3⟩
  | .local _ .vmem, ⟨6, _⟩ => ⟨S25x768, .f32⟩
  | .local _ .vmem, ⟨7, _⟩ => ⟨S4096x768, .fp8e4m3⟩
  | .local _ .vmem, ⟨8, _⟩ => ⟨S1x768, .f32⟩
  | .local _ .vmem, ⟨9, _⟩ => ⟨S1x768, .f32⟩
  | .local _ .vmem, ⟨10, _⟩ => ⟨S256x768, .bf16⟩
  | .local _ .vmem, ⟨11, _⟩ => ⟨S256x768, .f32⟩
  | .local _ .vmem, ⟨12, _⟩ => ⟨S3072x128, .f32⟩
  | .local _ .vmem, ⟨13, _⟩ => ⟨S8x128, .f32⟩
  | .local _ .vmem, ⟨14, _⟩ => ⟨S8192x128, .f32⟩
  | .local _ .vmem, ⟨15, _⟩ => ⟨S8448x128, .f32⟩
  | .local _ .vmem, ⟨16, _⟩ => ⟨S256x768, .f32⟩
  | .local _ .smem, ⟨0, _⟩ => ⟨S3072, .i32⟩
  | .local _ .smem, ⟨1, _⟩ => ⟨S3072, .i32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c24_i32 : BitVec 32 := 24#32
  let v19 : BitVec 32 := Scalar.addi c0_i32_4 c24_i32
  let c1_i32 : BitVec 32 := 1#32
  ⟨c0_i32_4, v19, c1_i32⟩
def k0_off1 (k0_t1 : Fin k0_t1_loop.trips) : Fin 3 → Nat :=
  let c0_28 : Index := 0#32
  let c0_i32_27 : BitVec 32 := 0#32
  let c0_i32_4 : BitVec 32 := 0#32
  let c1_i32 : BitVec 32 := 1#32
  let arg19 : BitVec 32 := Scf.iv c0_i32_4 c1_i32 k0_t1
  let c1_i32_26 : BitVec 32 := 1#32
  let v63 : BitVec 32 := Scalar.muli arg19 c1_i32_26
  let v64 : BitVec 32 := Scalar.addi c0_i32_27 v63
  let v65 : Index := Scalar.indexCast v64
  let c0_29 : Index := 0#32
  ![0, v65.toNat, 0]
def k0_off2 (k0_t1 : Fin k0_t1_loop.trips) : Fin 3 → Nat :=
  let c1 : Index := 1#32
  let c0_i32_27 : BitVec 32 := 0#32
  let c0_i32_4 : BitVec 32 := 0#32
  let c1_i32 : BitVec 32 := 1#32
  let arg19 : BitVec 32 := Scf.iv c0_i32_4 c1_i32 k0_t1
  let c1_i32_26 : BitVec 32 := 1#32
  let v63 : BitVec 32 := Scalar.muli arg19 c1_i32_26
  let v64 : BitVec 32 := Scalar.addi c0_i32_27 v63
  let v68 : Index := Scalar.indexCast v64
  let c0_30 : Index := 0#32
  ![1, v68.toNat, 0]
def k0_off3 (k0_t1 : Fin k0_t1_loop.trips) : Fin 2 → Nat :=
  let c0_i32_27 : BitVec 32 := 0#32
  let c0_i32_4 : BitVec 32 := 0#32
  let c1_i32 : BitVec 32 := 1#32
  let arg19 : BitVec 32 := Scf.iv c0_i32_4 c1_i32 k0_t1
  let c1_i32_26 : BitVec 32 := 1#32
  let v63 : BitVec 32 := Scalar.muli arg19 c1_i32_26
  let v64 : BitVec 32 := Scalar.addi c0_i32_27 v63
  let c128_i32 : BitVec 32 := 128#32
  let v162 : BitVec 32 := Scalar.muli v64 c128_i32
  let v163 : Index := Scalar.indexCast v162
  let c0_59 : Index := 0#32
  ![v163.toNat, 0]
@[reducible] def k0_t2_loop : Scf.Loop 32 :=
  let c0_i32_17 : BitVec 32 := 0#32
  let c3072_i32 : BitVec 32 := 3072#32
  let v57 : BitVec 32 := Scalar.addi c0_i32_17 c3072_i32
  let c1_i32_18 : BitVec 32 := 1#32
  ⟨c0_i32_17, v57, c1_i32_18⟩
def k0_off4 (k0_t2 : Fin k0_t2_loop.trips) : Fin 1 → Nat :=
  let c0_i32_27 : BitVec 32 := 0#32
  let c0_i32_17 : BitVec 32 := 0#32
  let c1_i32_18 : BitVec 32 := 1#32
  let arg19 : BitVec 32 := Scf.iv c0_i32_17 c1_i32_18 k0_t2
  let c1_i32_26 : BitVec 32 := 1#32
  let v63 : BitVec 32 := Scalar.muli arg19 c1_i32_26
  let v64 : BitVec 32 := Scalar.addi c0_i32_27 v63
  let v65 : Index := Scalar.indexCast v64
  ![v65.toNat]
def k0_off5 (k0_t2 : Fin k0_t2_loop.trips) : Fin 2 → Nat :=
  let c0_i32_27 : BitVec 32 := 0#32
  let c0_i32_17 : BitVec 32 := 0#32
  let c1_i32_18 : BitVec 32 := 1#32
  let arg19 : BitVec 32 := Scf.iv c0_i32_17 c1_i32_18 k0_t2
  let c1_i32_26 : BitVec 32 := 1#32
  let v63 : BitVec 32 := Scalar.muli arg19 c1_i32_26
  let v64 : BitVec 32 := Scalar.addi c0_i32_27 v63
  let v73 : Index := Scalar.indexCast v64
  let c0_28 : Index := 0#32
  ![v73.toNat, 0]
def k0_off6 (v68 : BitVec 32) : Fin 2 → Nat :=
  let c3_i32 : BitVec 32 := 3#32
  let v75 : BitVec 32 := Scalar.andi v68 c3_i32
  let v76 : Index := Scalar.indexCast v75
  let c0_29 : Index := 0#32
  ![v76.toNat, 0]

def k0_off7 (v66 : BitVec 32) (v68 : BitVec 32) : Fin 2 → Nat :=
  let c2_i32 : BitVec 32 := 2#32
  let v69 : BitVec 32 := Scalar.shrsi v68 c2_i32
  let c128_i32 : BitVec 32 := 128#32
  let v70 : BitVec 32 := Scalar.muli v69 c128_i32
  let c127_i32 : BitVec 32 := 127#32
  let v71 : BitVec 32 := Scalar.andi v66 c127_i32
  let v72 : BitVec 32 := Scalar.addi v70 v71
  let v79 : Index := Scalar.indexCast v72
  let c0_30 : Index := 0#32
  ![v79.toNat, 0]

def k0_chk1 (i : grid0.Coords) (v66 : BitVec 32) (v68 : BitVec 32) : Prop :=
  (∀ (k0_h1 : k0_cond1 i = 1#1), ∀ a, (k0_off6 v68) a + S1x128.size a ≤ S8x128.size a) ∧
  (∀ (k0_h1 : k0_cond1 i = 1#1), ∀ a, (k0_off7 v66 v68) a + S1x128.size a ≤ S8192x128.size a)
theorem k0_off6_inb : ∀ (i : grid0.Coords) (v66 : BitVec 32) (v68 : BitVec 32) (k0_hw1 : k0_chk1 i v66 v68), ∀ (k0_h1 : k0_cond1 i = 1#1), ∀ a, (k0_off6 v68) a + S1x128.size a ≤ S8x128.size a := fun i v66 v68 k0_hw1 k0_h1 => k0_hw1.1 k0_h1
theorem k0_off7_inb : ∀ (i : grid0.Coords) (v66 : BitVec 32) (v68 : BitVec 32) (k0_hw1 : k0_chk1 i v66 v68), ∀ (k0_h1 : k0_cond1 i = 1#1), ∀ a, (k0_off7 v66 v68) a + S1x128.size a ≤ S8192x128.size a := fun i v66 v68 k0_hw1 k0_h1 => k0_hw1.2 k0_h1

@[reducible] def k0_t3_loop : Scf.Loop 32 :=
  let c0_i32_20 : BitVec 32 := 0#32
  let c64_i32 : BitVec 32 := 64#32
  let v58 : BitVec 32 := Scalar.addi c0_i32_20 c64_i32
  let c1_i32_21 : BitVec 32 := 1#32
  ⟨c0_i32_20, v58, c1_i32_21⟩
def k0_off8 (k0_t3 : Fin k0_t3_loop.trips) : Fin 2 → Nat :=
  let c0_i32_27 : BitVec 32 := 0#32
  let c0_i32_20 : BitVec 32 := 0#32
  let c1_i32_21 : BitVec 32 := 1#32
  let arg19 : BitVec 32 := Scf.iv c0_i32_20 c1_i32_21 k0_t3
  let c1_i32_26 : BitVec 32 := 1#32
  let v63 : BitVec 32 := Scalar.muli arg19 c1_i32_26
  let v64 : BitVec 32 := Scalar.addi c0_i32_27 v63
  let c128_i32 : BitVec 32 := 128#32
  let v65 : BitVec 32 := Scalar.muli v64 c128_i32
  let v66 : Index := Scalar.indexCast v65
  let c0_28 : Index := 0#32
  ![v66.toNat, 0]
def k0_off9 (k0_t3 : Fin k0_t3_loop.trips) (c0_i32_29 : BitVec 32) : Fin 2 → Nat :=
  let c0_i32_27 : BitVec 32 := 0#32
  let c0_i32_20 : BitVec 32 := 0#32
  let c1_i32_21 : BitVec 32 := 1#32
  let arg19 : BitVec 32 := Scf.iv c0_i32_20 c1_i32_21 k0_t3
  let c1_i32_26 : BitVec 32 := 1#32
  let v63 : BitVec 32 := Scalar.muli arg19 c1_i32_26
  let v64 : BitVec 32 := Scalar.addi c0_i32_27 v63
  let c4_i32 : BitVec 32 := 4#32
  let v70 : BitVec 32 := Scalar.muli v64 c4_i32
  let v71 : BitVec 32 := Scalar.addi v70 c0_i32_29
  let v72 : Index := Scalar.indexCast v71
  let c0_30 : Index := 0#32
  ![v72.toNat, 0]
def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off10 (i : grid0.Coords) : Fin 2 → Nat :=
  let arg0 : BitVec 32 := BitVec.ofNat 32 (i 0).val
  let v14 : Index := Scalar.indexCast arg0
  let c0_8 : Index := 0#32
  ![v14.toNat, 0]
def k0_off11 (i : grid0.Coords) (c0_i32_9 : BitVec 32) : Fin 2 → Nat :=
  let arg0 : BitVec 32 := BitVec.ofNat 32 (i 0).val
  let c264_i32 : BitVec 32 := 264#32
  let v26 : BitVec 32 := Scalar.muli arg0 c264_i32
  let v27 : BitVec 32 := Scalar.addi v26 c0_i32_9
  let v28 : Index := Scalar.indexCast v27
  let c0_10 : Index := 0#32
  ![v28.toNat, 0]
def k0_cond3 (i : grid0.Coords) : BitVec 1 :=
  let arg0 : BitVec 32 := BitVec.ofNat 32 (i 0).val
  let c25_i32_2 : BitVec 32 := 25#32
  let v6 : BitVec 1 := Scalar.cmpi .eq arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3072 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3072 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4096x768 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S25x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S256x4096 : Shape := ⟨2, ![256, 4096]⟩
abbrev S256 : Shape := ⟨1, ![256]⟩
abbrev S3072 : Shape := ⟨1, ![3072]⟩
abbrev S3072x2 : Shape := ⟨2, ![3072, 2]⟩
abbrev S25x4096x768 : Shape := ⟨3, ![25, 4096, 768]⟩
abbrev S25x768 : Shape := ⟨2, ![25, 768]⟩
abbrev S4096x768 : Shape := ⟨2, ![4096, 768]⟩
abbrev S768 : Shape := ⟨1, ![768]⟩
abbrev S_ : Shape := ⟨0, ![]⟩
abbrev S3072x2x1 : Shape := ⟨3, ![3072, 2, 1]⟩
abbrev S3072x2x3 : Shape := ⟨3, ![3072, 2, 3]⟩
abbrev S3 : Shape := ⟨1, ![3]⟩
abbrev S3072x1 : Shape := ⟨2, ![3072, 1]⟩
abbrev S1x3 : Shape := ⟨2, ![1, 3]⟩
abbrev S3072x3 : Shape := ⟨2, ![3072, 3]⟩
abbrev S3072x1x3 : Shape := ⟨3, ![3072, 1, 3]⟩
abbrev S3072x3x1 : Shape := ⟨3, ![3072, 3, 1]⟩
abbrev S3072x3x3 : Shape := ⟨3, ![3072, 3, 3]⟩
abbrev S3072x9 : Shape := ⟨2, ![3072, 9]⟩
abbrev S256x25x768 : Shape := ⟨3, ![256, 25, 768]⟩
abbrev S256x1x1 : Shape := ⟨3, ![256, 1, 1]⟩
abbrev S1x25x768 : Shape := ⟨3, ![1, 25, 768]⟩
abbrev S3072x9x1 : Shape := ⟨3, ![3072, 9, 1]⟩
abbrev S3072x9x2 : Shape := ⟨3, ![3072, 9, 2]⟩
abbrev S3072x9x768 : Shape := ⟨3, ![3072, 9, 768]⟩
abbrev S3072x768 : Shape := ⟨2, ![3072, 768]⟩
abbrev S256x768 : Shape := ⟨2, ![256, 768]⟩
abbrev S256x1 : Shape := ⟨2, ![256, 1]⟩
abbrev S1x768 : Shape := ⟨2, ![1, 768]⟩

abbrev nBuf : Space → Nat
  | .hbm => 143
  | .vmem => 6
  | .smem => 0
  | _ => 0

abbrev hbmTy0_0 (i : Nat) : BufTy := match i % 128 with
  | 0 => ⟨S256x4096, .i8⟩
  | 1 => ⟨S256, .f32⟩
  | 2 => ⟨S3072, .i32⟩
  | 3 => ⟨S3072, .i32⟩
  | 4 => ⟨S3072x2, .f32⟩
  | 5 => ⟨S25x4096x768, .i8⟩
  | 6 => ⟨S25x768, .f32⟩
  | 7 => ⟨S4096x768, .fp8e4m3⟩
  | 8 => ⟨S768, .f32⟩
  | 9 => ⟨S768, .f32⟩
  | 10 => ⟨S256x4096, .fp8e4m3⟩
  | 11 => ⟨S25x4096x768, .fp8e4m3⟩
  | 12 => ⟨S256x4096, .f32⟩
  | 13 => ⟨S25x4096x768, .f32⟩
  | 14 => ⟨S4096x768, .f32⟩
  | 15 => ⟨S_, .f32⟩
  | 16 => ⟨S3072x2, .f32⟩
  | 17 => ⟨S3072x2, .f32⟩
  | 18 => ⟨S3072x2, .f32⟩
  | 19 => ⟨S_, .i32⟩
  | 20 => ⟨S_, .i32⟩
  | 21 => ⟨S_, .f32⟩
  | 22 => ⟨S3072x2, .f32⟩
  | 23 => ⟨S3072x2, .f32⟩
  | 24 => ⟨S_, .f32⟩
  | 25 => ⟨S3072x2, .f32⟩
  | 26 => ⟨S3072x2, .f32⟩
  | 27 => ⟨S3072x2, .i32⟩
  | 28 => ⟨S3072x2, .f32⟩
  | 29 => ⟨S3072x2, .f32⟩
  | 30 => ⟨S_, .f32⟩
  | 31 => ⟨S3072x2, .f32⟩
  | 32 => ⟨S3072x2, .f32⟩
  | 33 => ⟨S3072x2, .f32⟩
  | 34 => ⟨S_, .f32⟩
  | 35 => ⟨S3072x2, .f32⟩
  | 36 => ⟨S3072x2, .f32⟩
  | 37 => ⟨S3072x2, .f32⟩
  | 38 => ⟨S3072x2, .f32⟩
  | 39 => ⟨S3072x2, .f32⟩
  | 40 => ⟨S_, .f32⟩
  | 41 => ⟨S3072x2, .f32⟩
  | 42 => ⟨S3072x2, .f32⟩
  | 43 => ⟨S_, .f32⟩
  | 44 => ⟨S3072x2, .f32⟩
  | 45 => ⟨S3072x2, .f32⟩
  | 46 => ⟨S3072x2, .f32⟩
  | 47 => ⟨S3072x2x1, .f32⟩
  | 48 => ⟨S3072x2x1, .f32⟩
  | 49 => ⟨S3072x2x1, .f32⟩
  | 50 => ⟨S3072x2x3, .f32⟩
  | 51 => ⟨S3, .i32⟩
  | 52 => ⟨S3072x1, .i32⟩
  | 53 => ⟨S3072, .i32⟩
  | 54 => ⟨S3072x1, .i32⟩
  | 55 => ⟨S1x3, .i32⟩
  | 56 => ⟨S3072x3, .i32⟩
  | 57 => ⟨S3072x3, .i32⟩
  | 58 => ⟨S3072x3, .i32⟩
  | 59 => ⟨S3072x1, .i32⟩
  | 60 => ⟨S3072, .i32⟩
  | 61 => ⟨S3072x1, .i32⟩
  | 62 => ⟨S1x3, .i32⟩
  | 63 => ⟨S3072x3, .i32⟩
  | 64 => ⟨S3072x3, .i32⟩
  | 65 => ⟨S3072x3, .i32⟩
  | 66 => ⟨S3072x1x3, .i32⟩
  | 67 => ⟨S3072x3x1, .i32⟩
  | 68 => ⟨S_, .i32⟩
  | 69 => ⟨S3072x3x1, .i32⟩
  | 70 => ⟨S3072x3x1, .i32⟩
  | 71 => ⟨S3072x3x3, .i32⟩
  | 72 => ⟨S3072x3x3, .i32⟩
  | 73 => ⟨S3072x3x3, .i32⟩
  | 74 => ⟨S3072x9, .i32⟩
  | 75 => ⟨S3072x1x3, .f32⟩
  | 76 => ⟨S3072x3, .f32⟩
  | 77 => ⟨S3072x1x3, .f32⟩
  | 78 => ⟨S3072x1x3, .f32⟩
  | 79 => ⟨S3072x3, .f32⟩
  | 80 => ⟨S3072x3x1, .f32⟩
  | 81 => ⟨S3072x3x3, .f32⟩
  | 82 => ⟨S3072x3x3, .f32⟩
  | 83 => ⟨S3072x3x3, .f32⟩
  | 84 => ⟨S3072x9, .f32⟩
  | 85 => ⟨S256x25x768, .f32⟩
  | 86 => ⟨S256x1x1, .f32⟩
  | 87 => ⟨S256x25x768, .f32⟩
  | 88 => ⟨S256x25x768, .f32⟩
  | 89 => ⟨S1x25x768, .f32⟩
  | 90 => ⟨S256x25x768, .f32⟩
  | 91 => ⟨S256x25x768, .f32⟩
  | 92 => ⟨S3072x1, .i32⟩
  | 93 => ⟨S_, .i32⟩
  | 94 => ⟨S3072x1, .i32⟩
  | 95 => ⟨S3072x1, .i1⟩
  | 96 => ⟨S_, .i32⟩
  | 97 => ⟨S3072x1, .i32⟩
  | 98 => ⟨S3072x1, .i32⟩
  | 99 => ⟨S3072x1, .i32⟩
  | 100 => ⟨S_, .i32⟩
  | 101 => ⟨S3072x9, .i32⟩
  | 102 => ⟨S3072x9, .i1⟩
  | 103 => ⟨S_, .i32⟩
  | 104 => ⟨S3072x9, .i32⟩
  | 105 => ⟨S3072x9, .i32⟩
  | 106 => ⟨S3072x9, .i32⟩
  | 107 => ⟨S3072x9, .i32⟩
  | 108 => ⟨S3072x9x1, .i32⟩
  | 109 => ⟨S3072x9x1, .i32⟩
  | 110 => ⟨S3072x9x2, .i32⟩
  | 111 => ⟨S3072x9x768, .f32⟩
  | 112 => ⟨S3072x768, .f32⟩
  | 113 => ⟨S3072x1, .f32⟩
  | 114 => ⟨S3072, .f32⟩
  | 115 => ⟨S_, .f32⟩
  | 116 => ⟨S3072, .f32⟩
  | 117 => ⟨S_, .f32⟩
  | 118 => ⟨S256, .f32⟩
  | 119 => ⟨S3072x1, .i32⟩
  | 120 => ⟨S256, .f32⟩
  | 121 => ⟨S_, .f32⟩
  | 122 => ⟨S256x768, .f32⟩
  | 123 => ⟨S3072x1, .i32⟩
  | 124 => ⟨S256x768, .f32⟩
  | 125 => ⟨S_, .f32⟩
  | 126 => ⟨S256, .f32⟩
  | 127 => ⟨S256, .f32⟩
  | _ => ⟨S256x4096, .i8⟩

abbrev hbmTy0_1 (i : Nat) : BufTy := match i % 128 with
  | 0 => ⟨S256x1, .f32⟩
  | 1 => ⟨S256x768, .f32⟩
  | 2 => ⟨S256x768, .f32⟩
  | 3 => ⟨S256x768, .f32⟩
  | 4 => ⟨S256x1, .f32⟩
  | 5 => ⟨S256x768, .f32⟩
  | 6 => ⟨S256x768, .f32⟩
  | 7 => ⟨S1x768, .f32⟩
  | 8 => ⟨S256x768, .f32⟩
  | 9 => ⟨S256x768, .f32⟩
  | 10 => ⟨S256x768, .f32⟩
  | 11 => ⟨S1x768, .f32⟩
  | 12 => ⟨S256x768, .f32⟩
  | 13 => ⟨S256x768, .f32⟩
  | 14 => ⟨S256x768, .bf16⟩
  | _ => ⟨S256x4096, .i8⟩

abbrev hbmTy (i : Nat) : BufTy := match i / 128 with
  | 0 => hbmTy0_0 i
  | 1 => hbmTy0_1 i
  | _ => ⟨S256x4096, .i8⟩

abbrev bufTy : (tb : Table) → Fin (tcTables nBuf tb) → BufTy
  | .hbm, ⟨i, _⟩ => hbmTy i
  | .local _ .vmem, ⟨0, _⟩ => ⟨S256x4096, .fp8e4m3⟩
  | .local _ .vmem, ⟨1, _⟩ => ⟨S25x4096x768, .fp8e4m3⟩
  | .local _ .vmem, ⟨2, _⟩ => ⟨S4096x768, .fp8e4m3⟩
  | .local _ .vmem, ⟨3, _⟩ => ⟨S256x4096, .f32⟩
  | .local _ .vmem, ⟨4, _⟩ => ⟨S25x4096x768, .f32⟩
  | .local _ .vmem, ⟨5, _⟩ => ⟨S4096x768, .f32⟩
  | _, _ => ⟨S256x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_6 : Ref sig .tc := ⟨.hbm, 93, rfl⟩
abbrev main_v68 : Ref sig .tc := ⟨.hbm, 94, rfl⟩
abbrev main_v69 : Ref sig .tc := ⟨.hbm, 95, rfl⟩
abbrev main_c_7 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_8 : Ref sig .tc := ⟨.hbm, 100, rfl⟩
abbrev main_v73 : Ref sig .tc := ⟨.hbm, 101, rfl⟩
abbrev main_v74 : Ref sig .tc := ⟨.hbm, 102, rfl⟩
abbrev main_c_9 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_10 : Ref sig .tc := ⟨.hbm, 115, rfl⟩
abbrev main_v86 : Ref sig .tc := ⟨.hbm, 116, rfl⟩
abbrev main_cst_11 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_13 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x4096x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S25x4096x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.TablesI.lean ====
/-
  What the kernel's arrays hold, as functions of what its operands hold.

  `BT` is the table of per-edge basis weights, `Mv` the four lane masks, `A4` the accumulator after some number of edges,
  `ADat` the entry of its re-tiled copy for a weight matrix, a destination and a lane, `accStep` one grid point's update of
  the sum.  Everything is stated over the payloads the translated kernel stores.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pointwise.Index

@[expose] public section

set_option maxRecDepth 16384
set_option warn.classDefReducibility false

noncomputable section

namespace Cert.KernelIdeal.Tables

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One row of lanes of the pseudo-coordinates: coordinate `a` of the edges `128 p .. 128 p + 127`. -/
def psRow (ps : Vec F S2x24x128 .f32) (a : Fin 2) (p : Fin 24) : Vec F S1x1x128 .f32 := fun x => ps (ix3 a p (x 2))

/-- The 128 rows of basis weights one trip of loop 1 stores. -/
def tab (v66 v69 : Vec F S1x1x128 .f32) : FVec F S128x128 .f32 :=
  k0_pay28 (k0_pay24 (k0_pay27 (F := F)) (k0_pay12 v69) (k0_pay17 v66) (k0_pay18 v66) (k0_pay19 (F := F)) (k0_pay20 (k0_pay26 (F := F)) v66)
    (k0_pay21 (k0_pay26 (F := F)) v66) (k0_pay22 (k0_pay26 (F := F)) v66) (k0_pay23 v66))

/-- The table of basis weights: a row for each edge. -/
def BT (ps : Vec F S2x24x128 .f32) : Vec F S3072x128 .f32 := fun j =>
  tab (psRow ps 0 ⟨(j 0).val / 128, Nat.div_lt_of_lt_mul (j 0).isLt⟩) (psRow ps 1 ⟨(j 0).val / 128, Nat.div_lt_of_lt_mul (j 0).isLt⟩)
    (ix2 ⟨(j 0).val % 128, Nat.mod_lt _ (by decide)⟩ (j 1))

/-- The masks: row `r` is one on the lanes `32 r .. 32 r + 31`. -/
def Mv : Vec F S8x128 .f32 := k0_pay1 (k0_pay29 (F := F))

/-- A row of a table, as the one-row block a load reads. -/
def rowOf {n : ℕ} (X : Vec F ⟨2, ![n, 128]⟩ .f32) (r : Fin n) : Vec F S1x128 .f32 := fun x => X (ix2 r (x 1))

/-- One edge added: the row the edge's two words name takes the edge's row of weights under the mask. -/
def a4Step (B : Vec F S3072x128 .f32) (M : Vec F S8x128 .f32) (s d : BitVec 32) (k : Fin 3072) (A : Vec F S8192x128 .f32) :
    Vec F S8192x128 .f32 :=
  if h : k0_off7 s d 0 < 8192 ∧ k0_off6 d 0 < 8 then
    fun j => if (j 0).val = k0_off7 s d 0 then
        k0_pay3 (rowOf B k) (rowOf M ⟨k0_off6 d 0, h.2⟩) (rowOf A ⟨k0_off7 s d 0, h.1⟩) (ix2 (0 : Fin 1) (j 1))
      else A j
  else A

/-- The accumulator after the first `k` edges. -/
def A4 (src dst : Vec F S3072 .i32) (B : Vec F S3072x128 .f32) (M : Vec F S8x128 .f32) : ℕ → Vec F S8192x128 .f32
  | 0 => k0_pay2 (F := F)
  | k + 1 => if h : k < 3072 then a4Step B M (src (ix1 ⟨k, h⟩)) (dst (ix1 ⟨k, h⟩)) ⟨k, h⟩ (A4 src dst B M k) else A4 src dst B M k

/-- Rows `128 k ..` of the accumulator. -/
def rows128 (A : Vec F S8192x128 .f32) (k : Fin 64) : Vec F S128x128 .f32 := fun x =>
  A (ix2 ⟨128 * k.val + (x 0).val, by have := k.isLt; have : (x 0).val < 128 := (x 0).isLt; omega⟩ (x 1))

/-- The four blocks one trip of loop 3 stores. -/
def tp (d : Fin 4) (v : Vec F S128x128 .f32) : FVec F S32x128 .f32 :=
  match d with
  | ⟨0, _⟩ => k0_pay5 v
  | ⟨1, _⟩ => k0_pay6 v
  | ⟨2, _⟩ => k0_pay7 v
  | ⟨3, _⟩ => k0_pay8 v

/-- The re-tiled accumulator: weight matrix `kk`, destination `d`, lane `s`. -/
def ADat (A : Vec F S8192x128 .f32) (kk : Fin 32) (d : Fin 256) (s : Fin 128) : Elt F .f32 :=
  tp ⟨d.val % 4, Nat.mod_lt _ (by decide)⟩ (rows128 A ⟨d.val / 4, Nat.div_lt_of_lt_mul d.isLt⟩) (ix2 kk s)

/-- An array of 32 blocks of 264 rows, the first 256 rows of each block the re-tiled accumulator's. -/
def IsAD (A : Vec F S8192x128 .f32) (R : Vec F S8448x128 .f32) : Prop :=
  ∀ (kk : Fin 32) (d : Fin 256) (j : S8448x128.Idx), (j 0).val = 264 * kk.val + d.val → R j = ADat A kk d (j 1)

/-- The square block of the re-tiled accumulator grid point `t` reads: half `g` of the destinations. -/
def adBlk (A : Vec F S8192x128 .f32) (t : Fin 32) (g : Fin 2) : Vec F S128x128 .f32 := fun x =>
  ADat A t ⟨128 * g.val + (x 0).val, by have := g.isLt; have : (x 0).val < 128 := (x 0).isLt; omega⟩ (x 1)

/-- The counts of edges, by destination and lane. -/
def degBlk (A : Vec F S8192x128 .f32) : Vec F S256x128 .f32 := fun x => ADat A 25 (x 0) (x 1)

/-- A row of the per-matrix scales. -/
def wsRow (ws : Vec F S25x768 .f32) (t : Fin 25) : Vec F S1x768 .f32 := fun x => ws (ix2 t (x 1))
/-- A row of the activations' scales. -/
def xsRow (xs : Vec F S2x128 .f32) (g : Fin 2) : Vec F S1x128 .f32 := fun x => xs (ix2 g (x 1))
/-- Half of the running sum. -/
def half (acc : Vec F S256x768 .f32) (g : Fin 2) : Vec F S128x768 .f32 := fun x =>
  acc (ix2 ⟨128 * g.val + (x 0).val, by have := g.isLt; have : (x 0).val < 128 := (x 0).isLt; omega⟩ (x 1))

/-- One grid point's update of the running sum, over the blocks it reads. -/
def accStep (x : Vec F S256x4096 .fp8e4m3) (w : Vec F S1x4096x768 .fp8e4m3) (ws : Vec F S1x768 .f32) (xs0 xs1 : Vec F S1x128 .f32)
    (b0 b1 : Vec F S128x128 .f32) (acc : Vec F S256x768 .f32) : Vec F S256x768 .f32 := fun j =>
  if h : (j 0).val < 128 then
    k0_pay42 (half acc 0) (k0_pay40 x w ws b0 xs0) (k0_pay41 x w ws b0 xs0) (ix2 (⟨(j 0).val, h⟩ : Fin 128) (j 1))
  else k0_pay43 (k0_pay30 x w ws) b1 xs1 (half acc 1)
    (ix2 (⟨(j 0).val - 128, by have : (j 0).val < 256 := (j 0).isLt; omega⟩ : Fin 128) (j 1))

end Cert.KernelIdeal.Tables
-- ==== Proof.LoopsI.lean ====
/-
  The three counted loops of the kernel's first grid point, each gone through once, at a symbolic trip.

  Loop 1 fills the table of per-edge basis weights.  Loop 2 walks the edges and adds each edge's row into the row of the
  accumulator its destination names.  Loop 3 re-tiles the accumulator by strided stores.  What the written buffer holds
  before trip `k` is a recursion on `k` over the contents at entry; each recursion is then read as an array (Tables).
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI

@[expose] public section

set_option maxRecDepth 16384
set_option warn.classDefReducibility false

noncomputable section

namespace Cert.KernelIdeal.Loops

open Cert.KernelIdeal Cert.KernelIdeal.Tables Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A memref of the core, whole, at raw contents `f`. -/
abbrev held (c : Dev nD) {sp : Space} {S : Shape} {e : EltTy} (M : Memref sig .tc sp S e)
    (f : BufTy.Contents (Elt F) M.view.ty) : sProp 𝕄G :=
  iprop(M.view.loc (c : Thread nD τ) ↦[M.view.set]{fullShare} f)

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)
variable (k0_h1 : k0_cond1 i = 1#1)

/-! ## Loop 2: one edge a trip -/

include i k0_h1 in
/-- Edge `k`'s word of an index operand. -/
abbrev word (M : Memref sig .tc .smem S3072 .i32) (f : BufTy.Contents (Elt F) M.view.ty) (k : Fin k0_t2_loop.trips) : BitVec 32 :=
  View.readAt (Elt F) M.view (Rect.unit (s := S3072) (k0_off4 k) S1.size (k0_off4_inb i k k0_h1)).toLoadRect f
    (Shape.Idx.first (numel1_S1.symm ▸ Nat.one_pos))

/-- What trip `k` stores: the accumulator's row with the edge's row, masked by the destination's low bits, added. -/
abbrev t2val (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k)) (k : Fin k0_t2_loop.trips)
    (f : BufTy.Contents (Elt F) arg16.view.ty) : FVec F S1x128 .f32 :=
  k0_pay3
    (View.readAt (Elt F) arg14.view (Rect.unit (s := S3072x128) (k0_off5 k) S1x128.size (k0_off5_inb i k k0_h1)).toLoadRect X14)
    (View.readAt (Elt F) arg15.view (Rect.unit (s := S8x128) (k0_off6 (word i k0_h1 arg2 X2 k)) S1x128.size
      (k0_off6_inb i (word i k0_h1 arg1 X1 k) (word i k0_h1 arg2 X2 k) (hchk k) k0_h1)).toLoadRect X15)
    (View.readAt (Elt F) arg16.view (Rect.unit (s := S8192x128) (k0_off7 (word i k0_h1 arg1 X1 k) (word i k0_h1 arg2 X2 k)) S1x128.size
      (k0_off7_inb i (word i k0_h1 arg1 X1 k) (word i k0_h1 arg2 X2 k) (hchk k) k0_h1)).toLoadRect f)

/-- The contents one trip leaves. -/
@[irreducible] def t2one (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k)) (k : Fin k0_t2_loop.trips)
    (f : BufTy.Contents (Elt F) arg16.view.ty) : BufTy.Contents (Elt F) arg16.view.ty :=
  arg16.view.writes (Elt F) f [⟨Rect.unit (s := S8192x128) (k0_off7 (word i k0_h1 arg1 X1 k) (word i k0_h1 arg2 X2 k)) S1x128.size
      (k0_off7_inb i (word i k0_h1 arg1 X1 k) (word i k0_h1 arg2 X2 k) (hchk k) k0_h1), t2val i arg1 arg2 arg14 arg15 arg16 k0_h1 X1 X2 X14 X15 hchk k f⟩]

/-- The accumulator's contents before trip `k`, over its contents `G` at entry. -/
def t2c (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k))
    (G : BufTy.Contents (Elt F) arg16.view.ty) : ℕ → BufTy.Contents (Elt F) arg16.view.ty
  | 0 => G
  | k + 1 => if h : k < k0_t2_loop.trips then
      t2one i arg1 arg2 arg14 arg15 arg16 k0_h1 X1 X2 X14 X15 hchk ⟨k, h⟩ (t2c X1 X2 X14 X15 hchk G k)
    else t2c X1 X2 X14 X15 hchk G k

/-- Loop 2's invariant. -/
abbrev inv2 (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k))
    (G : BufTy.Contents (Elt F) arg16.view.ty) (k : ℕ) (_ : Unit) : sProp 𝕄G :=
  iprop(held c arg1 X1 ∗ held c arg2 X2 ∗ held c arg14 X14 ∗ held c arg15 X15
    ∗ ∃ f, held c arg16 f ∗ ⌜f = t2c i arg1 arg2 arg14 arg15 arg16 k0_h1 X1 X2 X14 X15 hchk G k⌝)

/-- Loop 2, by its invariant. -/
@[sl_loop] def loop2 (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k))
    (G : BufTy.Contents (Elt F) arg16.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 where
  inv := inv2 c i arg1 arg2 arg14 arg15 arg16 k0_h1 X1 X2 X14 X15 hchk G
  step k acc := by
    have hk : k.val < 3072 := Nat.lt_of_lt_of_le k.isLt k0_t2_abs.2.1
    have hck := hchk k
    unfold k0_t2_body
    iintro ⟨H1, H2, H14, H15, ⟨%f, H16, %hf⟩⟩
    subst hf
    sl_exec
    sl_step
    isplitl [H1]; · iexact H1
    isplitl [H2]; · iexact H2
    isplitl [H14]; · iexact H14
    isplitl [H15]; · iexact H15
    iexists _; isplitl [H16]; · iexact H16
    ipureintro
    rw [t2c, dif_pos k.isLt]
    unfold t2one
    rfl

/-! ## Loop 3: 128 rows of the accumulator a trip, transposed into four strided blocks of 32 rows -/

/-- The rows trip `k` reads. -/
abbrev t3rows (X16 : BufTy.Contents (Elt F) arg16.view.ty) (k : Fin k0_t3_loop.trips) : Vec F S128x128 .f32 :=
  View.readAt (Elt F) arg16.view (Rect.unit (s := S8192x128) (k0_off8 k) S128x128.size (k0_off8_inb i k k0_h1)).toLoadRect X16

include i k0_h1 in
/-- A strided block of trip `k`. -/
abbrev t3rect (k : Fin k0_t3_loop.trips) (d : Fin 4) : Rect S8448x128 :=
  ⟨(⟨k0_off9 k (BitVec.ofNat 32 d.val), S32x128.size, ![264, 1], k0_off9_inb i k k0_h1 d⟩ : LoadRect S8448x128), spos_264_1⟩

/-- The four pieces trip `k` writes, last first. -/
@[irreducible] def t3pieces (X16 : BufTy.Contents (Elt F) arg16.view.ty) (k : Fin k0_t3_loop.trips) :
    List (View.Piece (Elt F) S8448x128 .f32) :=
  [⟨t3rect i k0_h1 k 3, k0_pay8 (t3rows i arg16 k0_h1 X16 k)⟩, ⟨t3rect i k0_h1 k 2, k0_pay7 (t3rows i arg16 k0_h1 X16 k)⟩,
   ⟨t3rect i k0_h1 k 1, k0_pay6 (t3rows i arg16 k0_h1 X16 k)⟩, ⟨t3rect i k0_h1 k 0, k0_pay5 (t3rows i arg16 k0_h1 X16 k)⟩]

/-- The re-tiled array's contents before trip `k`, over its contents `G` at entry. -/
def t3c (X16 : BufTy.Contents (Elt F) arg16.view.ty) (G : BufTy.Contents (Elt F) arg17.view.ty) : ℕ → BufTy.Contents (Elt F) arg17.view.ty
  | 0 => G
  | k + 1 => if h : k < k0_t3_loop.trips then
      arg17.view.writes (Elt F) (t3c X16 G k) (t3pieces i arg16 k0_h1 X16 ⟨k, h⟩)
    else t3c X16 G k

/-- Loop 3's invariant. -/
abbrev inv3 (X16 : BufTy.Contents (Elt F) arg16.view.ty) (G : BufTy.Contents (Elt F) arg17.view.ty) (k : ℕ) (_ : Unit) : sProp 𝕄G :=
  iprop(held c arg16 X16 ∗ ∃ f, held c arg17 f ∗ ⌜f = t3c i arg16 arg17 k0_h1 X16 G k⌝)

/-- Loop 3, by its invariant. -/
@[sl_loop] def loop3 (X16 : BufTy.Contents (Elt F) arg16.view.ty) (G : BufTy.Contents (Elt F) arg17.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 where
  inv := inv3 c i arg16 arg17 k0_h1 X16 G
  step k acc := by
    have hk : k.val < 64 := Nat.lt_of_lt_of_le k.isLt k0_t3_abs.2.1
    unfold k0_t3_body
    iintro ⟨H16, ⟨%f, H17, %hf⟩⟩
    subst hf
    sl_exec
    sl_step
    isplitl [H16]; · iexact H16
    iexists _; isplitl [H17]; · iexact H17
    ipureintro
    rw [t3c, dif_pos k.isLt]
    unfold t3pieces
    rfl

/-! ## Loop 1: the basis weights of 128 edges a trip -/

include i k0_h1 in
/-- A row of 128 edges' pseudo-coordinates, as trip `k` loads it. -/
abbrev t1row0 (X3 : BufTy.Contents (Elt F) arg3.view.ty) (k : Fin k0_t1_loop.trips) : Vec F S1x1x128 .f32 :=
  View.readAt (Elt F) arg3.view (Rect.unit (s := S2x24x128) (k0_off1 k) S1x1x128.size (k0_off1_inb i k k0_h1)).toLoadRect X3
include i k0_h1 in
/-- The other coordinate. -/
abbrev t1row1 (X3 : BufTy.Contents (Elt F) arg3.view.ty) (k : Fin k0_t1_loop.trips) : Vec F S1x1x128 .f32 :=
  View.readAt (Elt F) arg3.view (Rect.unit (s := S2x24x128) (k0_off2 k) S1x1x128.size (k0_off2_inb i k k0_h1)).toLoadRect X3

/-- The contents one trip leaves. -/
@[irreducible] def t1one (X3 : BufTy.Contents (Elt F) arg3.view.ty) (k : Fin k0_t1_loop.trips)
    (f : BufTy.Contents (Elt F) arg14.view.ty) : BufTy.Contents (Elt F) arg14.view.ty :=
  arg14.view.writes (Elt F) f [⟨Rect.unit (s := S3072x128) (k0_off3 k) S128x128.size (k0_off3_inb i k k0_h1),
    tab (t1row0 i arg3 k0_h1 X3 k) (t1row1 i arg3 k0_h1 X3 k)⟩]

/-- The table's contents before trip `k`, over its contents `G` at entry. -/
def t1c (X3 : BufTy.Contents (Elt F) arg3.view.ty) (G : BufTy.Contents (Elt F) arg14.view.ty) : ℕ → BufTy.Contents (Elt F) arg14.view.ty
  | 0 => G
  | k + 1 => if h : k < k0_t1_loop.trips then t1one i arg3 arg14 k0_h1 X3 ⟨k, h⟩ (t1c X3 G k) else t1c X3 G k

/-- Loop 1's invariant. -/
abbrev inv1 (X3 : BufTy.Contents (Elt F) arg3.view.ty) (G : BufTy.Contents (Elt F) arg14.view.ty) (k : ℕ) (_ : Unit) : sProp 𝕄G :=
  iprop(held c arg3 X3 ∗ ∃ f, held c arg14 f ∗ ⌜f = t1c i arg3 arg14 k0_h1 X3 G k⌝)

/-- Loop 1, by its invariant. -/
def loop1 (X3 : BufTy.Contents (Elt F) arg3.view.ty) (G : BufTy.Contents (Elt F) arg14.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 where
  inv := inv1 c i arg3 arg14 k0_h1 X3 G
  step k acc := by
    have hk : k.val < 24 := Nat.lt_of_lt_of_le k.isLt k0_t1_abs.2.1
    unfold k0_t1_body
    iintro ⟨H3, ⟨%f, H14, %hf⟩⟩
    subst hf
    sl_exec
    sl_step
    isplitl [H3]; · iexact H3
    iexists _; isplitl [H14]; · iexact H14
    ipureintro
    rw [t1c, dif_pos k.isLt]
    unfold t1one tab
    rfl

/-! ## The contents read as arrays -/

theorem trips1 : k0_t1_loop.trips = 24 := by decide +kernel
theorem trips2 : k0_t2_loop.trips = 3072 := by decide +kernel
theorem trips3 : k0_t3_loop.trips = 64 := by decide +kernel

/-- Loop 1's rows of pseudo-coordinates are the operand's. -/
theorem t1row0_eq (X3 : BufTy.Contents (Elt F) arg3.view.ty) (k : Fin k0_t1_loop.trips) (h : k.val < 24) :
    t1row0 i arg3 k0_h1 X3 k = psRow (arg3.view.read (Elt F) X3) 0 ⟨k.val, h⟩ := by
  funext x
  refine congrArg (arg3.view.read (Elt F) X3) (funext fun a => Fin.ext ?_)
  have e := congrFun (k0_off1_eq k) a
  show k0_off1 k a + 1 * (x a).val = _
  rw [e]
  have h0 : (x 0).val < 1 := (x 0).isLt
  have h1 : (x 1).val < 1 := (x 1).isLt
  fin_cases a
  · show 0 + 1 * (x 0).val = 0; omega
  · show k.val + 1 * (x 1).val = k.val; omega
  · show 0 + 1 * (x 2).val = (x 2).val; omega

theorem t1row1_eq (X3 : BufTy.Contents (Elt F) arg3.view.ty) (k : Fin k0_t1_loop.trips) (h : k.val < 24) :
    t1row1 i arg3 k0_h1 X3 k = psRow (arg3.view.read (Elt F) X3) 1 ⟨k.val, h⟩ := by
  funext x
  refine congrArg (arg3.view.read (Elt F) X3) (funext fun a => Fin.ext ?_)
  have e := congrFun (k0_off2_eq k) a
  show k0_off2 k a + 1 * (x a).val = _
  rw [e]
  have h0 : (x 0).val < 1 := (x 0).isLt
  have h1 : (x 1).val < 1 := (x 1).isLt
  fin_cases a
  · show 1 + 1 * (x 0).val = 1; omega
  · show k.val + 1 * (x 1).val = k.val; omega
  · show 0 + 1 * (x 2).val = (x 2).val; omega

/-- The rows the first `k` trips of loop 1 have written are the table's. -/
theorem read_t1c (X3 : BufTy.Contents (Elt F) arg3.view.ty) (G : BufTy.Contents (Elt F) arg14.view.ty) (k : ℕ) (hk : k ≤ 24)
    (j : S3072x128.Idx) (hj : (j 0).val < 128 * k) :
    arg14.view.read (Elt F) (t1c i arg3 arg14 k0_h1 X3 G k) j = BT (arg3.view.read (Elt F) X3) j := by
  induction k with
  | zero => omega
  | succ k ih =>
    have hkt : k < k0_t1_loop.trips := by rw [trips1]; omega
    rw [t1c, dif_pos hkt]
    unfold t1one
    by_cases hlt : (j 0).val < 128 * k
    · rw [View.read_writes_cons_rows_of_not_mem (d := ![3072, 128]) arg14.view _ _ _ _ j (k0_off3_eq _) rfl (Or.inl hlt)]
      exact ih (by omega) hlt
    · refine (View.read_writes_cons_unit_of_mem arg14.view _ (off' := ![128 * k, 0]) _ _ _ j
        (ix2 (⟨(j 0).val - 128 * k, by omega⟩ : Fin 128) (j 1)) (k0_off3_eq ⟨k, hkt⟩) (fun a =>
        match a with
        | ⟨0, _⟩ => by show (j 0).val = 128 * k + ((j 0).val - 128 * k); omega
        | ⟨1, _⟩ => (Nat.zero_add _).symm)).trans ?_
      have hd : (j 0).val / 128 = k := by omega
      have hm : (j 0).val - 128 * k = (j 0).val % 128 := by omega
      rw [t1row0_eq i arg3 k0_h1 X3 ⟨k, hkt⟩ (by show k < 24; omega), t1row1_eq i arg3 k0_h1 X3 ⟨k, hkt⟩ (by show k < 24; omega)]
      unfold BT
      simp only [hd, hm]
      rfl

/-- So loop 1 leaves the table. -/
theorem read_t1 (X3 : BufTy.Contents (Elt F) arg3.view.ty) (G : BufTy.Contents (Elt F) arg14.view.ty) :
    arg14.view.read (Elt F) (t1c i arg3 arg14 k0_h1 X3 G 24) = BT (arg3.view.read (Elt F) X3) :=
  funext fun j => read_t1c i arg3 arg14 k0_h1 X3 G 24 le_rfl j (j 0).isLt

/-- The words a trip of loop 2 loads are the operand's. -/
theorem word_eq (M : Memref sig .tc .smem S3072 .i32) (f : BufTy.Contents (Elt F) M.view.ty) (k : Fin k0_t2_loop.trips) (h : k.val < 3072) :
    word i k0_h1 M f k = M.view.read (Elt F) f (ix1 ⟨k.val, h⟩) := by
  refine congrArg (M.view.read (Elt F) f) (funext fun a => Fin.ext ?_)
  have e := congrFun (k0_off4_eq k) a
  show k0_off4 k a + 1 * _ = _
  rw [e]
  obtain rfl := Subsingleton.elim a 0
  show k.val + 1 * 0 = k.val; omega

/-- A row load reads the row. -/
theorem readAt_row {n : ℕ} {M : Memref sig .tc .vmem ⟨2, ![n, 128]⟩ .f32} (f : BufTy.Contents (Elt F) M.view.ty) (off : Fin 2 → ℕ)
    (inb : ∀ a : Fin 2, off a + S1x128.size a ≤ (![n, 128] : Fin 2 → ℕ) a) (r : Fin n) (h0 : off 0 = r.val) (h1 : off 1 = 0) :
    View.readAt (Elt F) M.view (Rect.unit (s := ⟨2, ![n, 128]⟩) off S1x128.size inb).toLoadRect f = rowOf (M.view.read (Elt F) f) r := by
  funext x
  refine congrArg (M.view.read (Elt F) f) (funext fun a => Fin.ext ?_)
  show off a + 1 * (x a).val = _
  have hx : (x 0).val < 1 := (x 0).isLt
  fin_cases a
  · show off 0 + 1 * (x 0).val = r.val; omega
  · show off 1 + 1 * (x 1).val = (x 1).val; omega

/-- Loop 2's contents, read, are the accumulator's recursion. -/
theorem read_t2c (X1 : BufTy.Contents (Elt F) arg1.view.ty) (X2 : BufTy.Contents (Elt F) arg2.view.ty)
    (X14 : BufTy.Contents (Elt F) arg14.view.ty) (X15 : BufTy.Contents (Elt F) arg15.view.ty)
    (hchk : ∀ k, k0_chk1 i (word i k0_h1 arg1 X1 k) (word i k0_h1 arg2 X2 k))
    (G : BufTy.Contents (Elt F) arg16.view.ty) (hG : arg16.view.read (Elt F) G = k0_pay2 (F := F)) (k : ℕ) (hk : k ≤ 3072) :
    arg16.view.read (Elt F) (t2c i arg1 arg2 arg14 arg15 arg16 k0_h1 X1 X2 X14 X15 hchk G k)
      = A4 (arg1.view.read (Elt F) X1) (arg2.view.read (Elt F) X2) (arg14.view.read (Elt F) X14) (arg15.view.read (Elt F) X15) k := by
  induction k with
  | zero => exact hG
  | succ k ih =>
    have hk' : k < 3072 := hk
    have hkt : k < k0_t2_loop.trips := by rw [trips2]; exact hk'
    have ih := ih (by omega)
    rw [t2c, dif_pos hkt, A4, dif_pos hk']
    have e1 := word_eq i k0_h1 arg1 X1 ⟨k, hkt⟩ hk'
    have e2 := word_eq i k0_h1 arg2 X2 ⟨k, hkt⟩ hk'
    have hc := hchk ⟨k, hkt⟩
    have hb : k0_off7 (word i k0_h1 arg1 X1 ⟨k, hkt⟩) (word i k0_h1 arg2 X2 ⟨k, hkt⟩) 0 < 8192 ∧ k0_off6 (word i k0_h1 arg2 X2 ⟨k, hkt⟩) 0 < 8 :=
      ⟨hc.2 k0_h1 0, hc.1 k0_h1 0⟩
    rw [← e1, ← e2]
    unfold a4Step
    rw [dif_pos hb]
    unfold t2one
    funext j
    by_cases hj : (j 0).val = k0_off7 (word i k0_h1 arg1 X1 ⟨k, hkt⟩) (word i k0_h1 arg2 X2 ⟨k, hkt⟩) 0
    · rw [if_pos hj]
      refine (View.read_writes_cons_unit_of_mem arg16.view _
        (off' := k0_off7 (word i k0_h1 arg1 X1 ⟨k, hkt⟩) (word i k0_h1 arg2 X2 ⟨k, hkt⟩)) _ _ _ j (ix2 (0 : Fin 1) (j 1)) rfl (fun a =>
        match a with
        | ⟨0, _⟩ => hj
        | ⟨1, _⟩ => (Nat.zero_add _).symm)).trans ?_
      unfold t2val
      rw [← ih]
      rw [readAt_row X14 _ _ (⟨k, hk'⟩ : Fin 3072) (congrFun (k0_off5_eq ⟨k, hkt⟩) 0) (congrFun (k0_off5_eq ⟨k, hkt⟩) 1),
        readAt_row X15 _ _ (⟨_, hb.2⟩ : Fin 8) rfl rfl, readAt_row _ _ _ (⟨_, hb.1⟩ : Fin 8192) rfl rfl]
      rfl
    · rw [if_neg hj]
      rw [View.read_writes_cons_unit_of_not_mem arg16.view _ _ _ _ j rfl (0 : Fin 2) (by
        show (j 0).val < _ ∨ _ + 1 ≤ (j 0).val; omega)]
      exact congrFun ih j

/-- The rows a trip of loop 3 reads. -/
theorem t3rows_eq (X16 : BufTy.Contents (Elt F) arg16.view.ty) (k : Fin k0_t3_loop.trips) (h : k.val < 64) :
    t3rows i arg16 k0_h1 X16 k = rows128 (arg16.view.read (Elt F) X16) ⟨k.val, h⟩ := by
  funext x
  refine congrArg (arg16.view.read (Elt F) X16) (funext fun a => Fin.ext ?_)
  have e := congrFun (k0_off8_eq k) a
  show k0_off8 k a + 1 * (x a).val = _
  rw [e]
  fin_cases a
  · show 128 * k.val + 1 * (x 0).val = 128 * k.val + (x 0).val; omega
  · show 0 + 1 * (x 1).val = (x 1).val; omega

include i k0_h1 in
/-- A strided block's elements, placed. -/
theorem t3rect_emb (k : Fin k0_t3_loop.trips) (d : Fin 4) (x : (t3rect i k0_h1 k d).shape.Idx) (a : Fin 2) :
    ((t3rect i k0_h1 k d).emb x a).val = (![4 * k.val + d.val, 0] : Fin 2 → ℕ) a + (![264, 1] : Fin 2 → ℕ) a * (x a).val := by
  have e := congrFun (k0_off9_eq k d) a
  show k0_off9 k (BitVec.ofNat 32 d.val) a + _ = _
  rw [e]

/-- A strided piece read at one of its elements. -/
theorem read_piece_hit (f : BufTy.Contents (Elt F) arg17.view.ty) (k : Fin k0_t3_loop.trips) (d : Fin 4) (W : FVec F S32x128 .f32)
    (L : List (View.Piece (Elt F) S8448x128 .f32)) (j : S8448x128.Idx) (kk : Fin 32) (hj : (j 0).val = 264 * kk.val + (4 * k.val + d.val)) :
    arg17.view.read (Elt F) (arg17.view.writes (Elt F) f (⟨t3rect i k0_h1 k d, W⟩ :: L)) j = W (ix2 kk (j 1)) := by
  have h : (t3rect i k0_h1 k d).emb (ix2 kk (j 1)) = j := funext fun a => Fin.ext (by
    rw [t3rect_emb]
    match a with
    | ⟨0, _⟩ => show 4 * k.val + d.val + 264 * kk.val = (j 0).val; omega
    | ⟨1, _⟩ => show 0 + 1 * (j 1).val = (j 1).val; omega)
  conv_lhs => rw [← h]
  exact View.read_writes_cons_emb _ _ _ _ _ _

/-- A strided piece passed over at an element of another residue. -/
theorem read_piece_miss (f : BufTy.Contents (Elt F) arg17.view.ty) (k : Fin k0_t3_loop.trips) (d : Fin 4) (W : FVec F S32x128 .f32)
    (L : List (View.Piece (Elt F) S8448x128 .f32)) (j : S8448x128.Idx) (hj : (j 0).val % 264 ≠ 4 * k.val + d.val) (hk : k.val < 64) :
    arg17.view.read (Elt F) (arg17.view.writes (Elt F) f (⟨t3rect i k0_h1 k d, W⟩ :: L)) j
      = arg17.view.read (Elt F) (arg17.view.writes (Elt F) f L) j := by
  refine View.read_slice_write_of_not_mem _ _ _ _ ?_
  intro hm
  obtain ⟨x, -, hx⟩ := Finset.mem_map.mp hm
  have e := t3rect_emb i k0_h1 k d x 0
  rw [hx] at e
  apply hj
  have e' : (j 0).val = 4 * k.val + d.val + 264 * (x 0).val := e
  have := d.isLt
  omega

/-- The re-tiled accumulator's entry, by the trip and the block that wrote it. -/
theorem ADat_of (A : Vec F S8192x128 .f32) (kk : Fin 32) (d : Fin 256) (s : Fin 128) (k : Fin 64) (r : Fin 4) (h : d.val = 4 * k.val + r.val) :
    ADat A kk d s = tp r (rows128 A k) (ix2 kk s) := by
  have h1 : (⟨d.val / 4, Nat.div_lt_of_lt_mul d.isLt⟩ : Fin 64) = k := Fin.ext (by show d.val / 4 = k.val; have := r.isLt; omega)
  have h2 : (⟨d.val % 4, Nat.mod_lt _ (by decide)⟩ : Fin 4) = r := Fin.ext (by show d.val % 4 = r.val; have := r.isLt; omega)
  unfold ADat
  rw [h1, h2]

/-- The blocks the first `k` trips of loop 3 have written. -/
theorem read_t3c (X16 : BufTy.Contents (Elt F) arg16.view.ty) (G : BufTy.Contents (Elt F) arg17.view.ty) (k : ℕ) (hk : k ≤ 64)
    (kk : Fin 32) (d : Fin 256) (hd : d.val < 4 * k) (j : S8448x128.Idx) (hj : (j 0).val = 264 * kk.val + d.val) :
    arg17.view.read (Elt F) (t3c i arg16 arg17 k0_h1 X16 G k) j = ADat (arg16.view.read (Elt F) X16) kk d (j 1) := by
  induction k with
  | zero => omega
  | succ k ih =>
    have hkt : k < k0_t3_loop.trips := by rw [trips3]; omega
    have hk' : k < 64 := by omega
    rw [t3c, dif_pos hkt]
    unfold t3pieces
    have hm : (j 0).val % 264 = d.val := by have := d.isLt; omega
    rw [t3rows_eq i arg16 k0_h1 X16 ⟨k, hkt⟩ hk']
    by_cases hlt : d.val < 4 * k
    · rw [read_piece_miss i arg17 k0_h1 _ ⟨k, hkt⟩ 3 _ _ j (by rw [hm]; show d.val ≠ 4 * k + 3; omega) hk',
        read_piece_miss i arg17 k0_h1 _ ⟨k, hkt⟩ 2 _ _ j (by rw [hm]; show d.val ≠ 4 * k + 2; omega) hk',
        read_piece_miss i arg17 k0_h1 _ ⟨k, hkt⟩ 1 _ _ j (by rw [hm]; show d.val ≠ 4 * k + 1; omega) hk',
        read_piece_miss i arg17 k0_h1 _ ⟨k, hkt⟩ 0 _ _ j (by rw [hm]; show d.val ≠ 4 * k + 0; omega) hk']
      exact ih (by omega) hlt
    · have hq : d.val / 4 = k := by omega
      obtain ⟨r, hr⟩ : ∃ r : Fin 4, d.val = 4 * k + r.val := ⟨⟨d.val % 4, Nat.mod_lt _ (by decide)⟩, by show d.val = 4 * k + d.val % 4; omega⟩
      rw [ADat_of _ kk d (j 1) ⟨k, hk'⟩ r hr]
      match r, hr with
      | ⟨0, _⟩, hr =>
        have hr : d.val = 4 * k + 0 := hr
        rw [read_piece_miss i arg17 k0_h1 _ ⟨k, hkt⟩ 3 _ _ j (by rw [hm]; show d.val ≠ 4 * k + 3; omega) hk',
          read_piece_miss i arg17 k0_h1 _ ⟨k, hkt⟩ 2 _ _ j (by rw [hm]; show d.val ≠ 4 * k + 2; omega) hk',
          read_piece_miss i arg17 k0_h1 _ ⟨k, hkt⟩ 1 _ _ j (by rw [hm]; show d.val ≠ 4 * k + 1; omega) hk']
        exact read_piece_hit i arg17 k0_h1 _ ⟨k, hkt⟩ 0 _ _ j kk (by show (j 0).val = 264 * kk.val + (4 * k + 0); omega)
      | ⟨1, _⟩, hr =>
        have hr : d.val = 4 * k + 1 := hr
        rw [read_piece_miss i arg17 k0_h1 _ ⟨k, hkt⟩ 3 _ _ j (by rw [hm]; show d.val ≠ 4 * k + 3; omega) hk',
          read_piece_miss i arg17 k0_h1 _ ⟨k, hkt⟩ 2 _ _ j (by rw [hm]; show d.val ≠ 4 * k + 2; omega) hk']
        exact read_piece_hit i arg17 k0_h1 _ ⟨k, hkt⟩ 1 _ _ j kk (by show (j 0).val = 264 * kk.val + (4 * k + 1); omega)
      | ⟨2, _⟩, hr =>
        have hr : d.val = 4 * k + 2 := hr
        rw [read_piece_miss i arg17 k0_h1 _ ⟨k, hkt⟩ 3 _ _ j (by rw [hm]; show d.val ≠ 4 * k + 3; omega) hk']
        exact read_piece_hit i arg17 k0_h1 _ ⟨k, hkt⟩ 2 _ _ j kk (by show (j 0).val = 264 * kk.val + (4 * k + 2); omega)
      | ⟨3, _⟩, hr =>
        have hr : d.val = 4 * k + 3 := hr
        exact read_piece_hit i arg17 k0_h1 _ ⟨k, hkt⟩ 3 _ _ j kk (by show (j 0).val = 264 * kk.val + (4 * k + 3); omega)

/-- So loop 3 leaves the re-tiled accumulator. -/
theorem read_t3 (X16 : BufTy.Contents (Elt F) arg16.view.ty) (G : BufTy.Contents (Elt F) arg17.view.ty) :
    IsAD (arg16.view.read (Elt F) X16) (arg17.view.read (Elt F) (t3c i arg16 arg17 k0_h1 X16 G 64)) :=
  fun kk d j hj => read_t3c i arg16 arg17 k0_h1 X16 G 64 le_rfl kk d (by have := d.isLt; omega) j hj

end Cert.KernelIdeal.Loops
-- ==== Proof.BodyReadI.lean ====
/-
  What the kernel's body loads and stores at a grid point, read as blocks of the arrays of Tables.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI

@[expose] public section

set_option maxRecDepth 16384
set_option warn.classDefReducibility false

noncomputable section

namespace Cert.KernelIdeal.Body

open Cert.KernelIdeal Cert.KernelIdeal.Tables Cert.KernelIdeal.Loops Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)

/-! ## The blocks the body loads, read -/

/-- A whole load reads the contents. -/
theorem readAt_whole {s : Shape} {e : EltTy} {sp : Space} {M : Memref sig .tc sp s e} (f : BufTy.Contents (Elt F) M.view.ty) (off : Fin s.rank → ℕ)
    (inb : ∀ a, off a + s.size a ≤ s.size a) (h : ∀ a, off a = 0) :
    View.readAt (Elt F) M.view (Rect.unit (s := s) off s.size inb).toLoadRect f = M.view.read (Elt F) f := by
  funext x
  refine congrArg (M.view.read (Elt F) f) (funext fun a => Fin.ext ?_)
  show off a + 1 * (x a).val = (x a).val
  rw [h a]; omega

/-- A whole store leaves its payload. -/
theorem read_whole {s : Shape} {e : EltTy} {sp : Space} {M : Memref sig .tc sp s e} (f : BufTy.Contents (Elt F) M.view.ty) (off : Fin s.rank → ℕ)
    (inb : ∀ a, off a + s.size a ≤ s.size a) (W : s.Idx → Elt F e) (L : List (View.Piece (Elt F) s e)) (h : ∀ a, off a = 0) :
    M.view.read (Elt F) (M.view.writes (Elt F) f (⟨Rect.unit (s := s) off s.size inb, W⟩ :: L)) = W := by
  funext x
  exact View.read_writes_cons_unit_of_mem M.view f inb W L x x rfl fun a => by rw [h a]; omega

/-- A load of rows `o ..` of a matrix. -/
theorem readAt_rows {n m h : ℕ} {e : EltTy} {M : Memref sig .tc .vmem ⟨2, ![n, m]⟩ e} (f : BufTy.Contents (Elt F) M.view.ty) (off : Fin 2 → ℕ)
    (inb : ∀ a : Fin 2, off a + (![h, m] : Fin 2 → ℕ) a ≤ (![n, m] : Fin 2 → ℕ) a) (o : ℕ) (h0 : off 0 = o) (h1 : off 1 = 0)
    (x : (⟨2, ![h, m]⟩ : Shape).Idx) (hlt : o + (x 0).val < n) :
    View.readAt (Elt F) M.view (Rect.unit (s := ⟨2, ![n, m]⟩) off (![h, m] : Fin 2 → ℕ) inb).toLoadRect f x
      = M.view.read (Elt F) f (ix2 (⟨o + (x 0).val, hlt⟩ : Fin n) (x 1)) := by
  refine congrArg (M.view.read (Elt F) f) (funext fun a => Fin.ext ?_)
  show off a + 1 * (x a).val = _
  match a with
  | ⟨0, _⟩ => show off 0 + 1 * (x 0).val = o + (x 0).val; omega
  | ⟨1, _⟩ => show off 1 + 1 * (x 1).val = (x 1).val; omega

theorem readAt_xs (f : BufTy.Contents (Elt F) arg4.view.ty) (g : Fin 2) (inb) :
    View.readAt (Elt F) arg4.view (Rect.unit (s := S2x128) ![g.val, 0] S1x128.size inb).toLoadRect f = xsRow (arg4.view.read (Elt F) f) g := by
  funext x
  have hx : (x 0).val < 1 := (x 0).isLt
  refine (readAt_rows f _ _ g.val rfl rfl x (by have := g.isLt; omega)).trans ?_
  refine congrArg (arg4.view.read (Elt F) f) ?_
  congr 1
  exact Fin.ext (by show g.val + (x 0).val = g.val; omega)

theorem readAt_ws (f : BufTy.Contents (Elt F) arg8.view.ty) (t : Fin 25) (ht : (i 0).val = t.val) (hc2 : k0_cond2 i = 1#1) :
    View.readAt (Elt F) arg8.view (Rect.unit (s := S25x768) (k0_off10 i) S1x768.size (k0_off10_inb i hc2)).toLoadRect f
      = wsRow (arg8.view.read (Elt F) f) t := by
  funext x
  have hx : (x 0).val < 1 := (x 0).isLt
  refine (readAt_rows f _ _ t.val ((congrFun (k0_off10_eq i) 0).trans ht) (congrFun (k0_off10_eq i) 1) x (by have := t.isLt; omega)).trans ?_
  refine congrArg (arg8.view.read (Elt F) f) ?_
  congr 1
  exact Fin.ext (by show t.val + (x 0).val = t.val; omega)

/-- The square block of the re-tiled accumulator a grid point loads. -/
theorem readAt_ad (A : Vec F S8192x128 .f32) (f : BufTy.Contents (Elt F) arg17.view.ty) (hf : IsAD A (arg17.view.read (Elt F) f)) (t : Fin 32)
    (ht : (i 0).val = t.val) (hc2 : k0_cond2 i = 1#1) (g : Fin 2) :
    View.readAt (Elt F) arg17.view (Rect.unit (s := S8448x128) (k0_off11 i (BitVec.ofNat 32 (128 * g.val))) S128x128.size
      (k0_off11_inb i hc2 g)).toLoadRect f = adBlk A t g := by
  funext x
  have hx : (x 0).val < 128 := (x 0).isLt
  have hg := g.isLt
  refine (readAt_rows f _ _ (264 * t.val + 128 * g.val) ((congrFun (k0_off11_eq i g) 0).trans (by rw [← ht]; rfl))
    (congrFun (k0_off11_eq i g) 1) x (by have := t.isLt; omega)).trans ?_
  exact hf t ⟨128 * g.val + (x 0).val, by omega⟩ _ (by show 264 * t.val + 128 * g.val + (x 0).val = 264 * t.val + (128 * g.val + (x 0).val); omega)

/-- The block of edge counts the last point loads. -/
theorem readAt_deg (A : Vec F S8192x128 .f32) (f : BufTy.Contents (Elt F) arg17.view.ty) (hf : IsAD A (arg17.view.read (Elt F) f)) (inb) :
    View.readAt (Elt F) arg17.view (Rect.unit (s := S8448x128) ![6600, 0] S256x128.size inb).toLoadRect f = degBlk A := by
  funext x
  have hx : (x 0).val < 256 := (x 0).isLt
  refine (readAt_rows f _ _ 6600 rfl rfl x (by omega)).trans ?_
  exact hf 25 (x 0) _ (by show 6600 + (x 0).val = 264 * 25 + (x 0).val; omega)

/-- Half of the running sum, loaded. -/
theorem readAt_half (f : BufTy.Contents (Elt F) arg18.view.ty) (o : ℕ) (g : Fin 2) (ho : o = 128 * g.val) (inb) :
    View.readAt (Elt F) arg18.view (Rect.unit (s := S256x768) ![o, 0] S128x768.size inb).toLoadRect f = half (arg18.view.read (Elt F) f) g := by
  subst ho
  funext x
  have hx : (x 0).val < 128 := (x 0).isLt
  exact readAt_rows f _ _ (128 * g.val) rfl rfl x (by have := g.isLt; omega)

/-- The two stores of a grid point, read. -/
theorem read_halves (f : BufTy.Contents (Elt F) arg18.view.ty) (inb inb') (W0 W1 : Vec F S128x768 .f32) (L : List (View.Piece (Elt F) S256x768 .f32)) (j : S256x768.Idx) :
    arg18.view.read (Elt F) (arg18.view.writes (Elt F) f ((⟨Rect.unit (s := S256x768) ![128, 0] S128x768.size inb, W1⟩ : View.Piece (Elt F) S256x768 .f32) ::
      (⟨Rect.unit (s := S256x768) ![0, 0] S128x768.size inb', W0⟩ : View.Piece (Elt F) S256x768 .f32) :: L)) j
      = if h : (j 0).val < 128 then W0 (ix2 (⟨(j 0).val, h⟩ : Fin 128) (j 1))
        else W1 (ix2 (⟨(j 0).val - 128, by have : (j 0).val < 256 := (j 0).isLt; omega⟩ : Fin 128) (j 1)) := by
  by_cases h : (j 0).val < 128
  · rw [dif_pos h]
    refine (View.read_writes_cons_rows_of_not_mem (d := ![256, 768]) arg18.view _ _ _ _ j (o := 128) (W := 128) rfl rfl (Or.inl h)).trans ?_
    exact View.read_writes_cons_unit_of_mem arg18.view _ _ _ _ j (ix2 (⟨(j 0).val, h⟩ : Fin 128) (j 1)) rfl (fun a =>
      match a with
      | ⟨0, _⟩ => (Nat.zero_add _).symm
      | ⟨1, _⟩ => (Nat.zero_add _).symm)
  · rw [dif_neg h]
    exact View.read_writes_cons_unit_of_mem arg18.view _ _ _ _ j
      (ix2 (⟨(j 0).val - 128, by have : (j 0).val < 256 := (j 0).isLt; omega⟩ : Fin 128) (j 1)) rfl (fun a =>
      match a with
      | ⟨0, _⟩ => by show (j 0).val = 128 + ((j 0).val - 128); omega
      | ⟨1, _⟩ => (Nat.zero_add _).symm)

/-- One grid point's update, from what the body loads and stores. -/
theorem read_step (f : BufTy.Contents (Elt F) arg18.view.ty) (L : List (View.Piece (Elt F) S256x768 .f32)) (inb inb')
    {v6 x : Vec F S256x4096 .fp8e4m3} {v7 w : Vec F S1x4096x768 .fp8e4m3} {v8 ws : Vec F S1x768 .f32} {a0 b0 a1 b1 : Vec F S128x128 .f32}
    {y0 x0 y1 x1 : Vec F S1x128 .f32} {h0 h1 : Vec F S128x768 .f32} {acc : Vec F S256x768 .f32}
    (e6 : v6 = x) (e7 : v7 = w) (e8 : v8 = ws) (ea0 : a0 = b0) (ea1 : a1 = b1) (ex0 : y0 = x0) (ex1 : y1 = x1)
    (eh0 : h0 = half acc 0) (eh1 : h1 = half acc 1) :
    arg18.view.read (Elt F) (arg18.view.writes (Elt F) f
      ((⟨Rect.unit (s := S256x768) ![128, 0] S128x768.size inb, k0_pay43 (k0_pay30 v6 v7 v8) a1 y1 h1⟩ : View.Piece (Elt F) S256x768 .f32) ::
        (⟨Rect.unit (s := S256x768) ![0, 0] S128x768.size inb', k0_pay42 h0 (k0_pay40 v6 v7 v8 a0 y0) (k0_pay41 v6 v7 v8 a0 y0)⟩ :
          View.Piece (Elt F) S256x768 .f32) :: L))
      = accStep x w ws x0 x1 b0 b1 acc := by
  subst e6 e7 e8 ea0 ea1 ex0 ex1 eh0 eh1
  funext j
  rw [read_halves]
  rfl

/-- The first half is loaded past the store of zeros; -/
theorem readCov_half0 (P : Vec F S256x768 .f32) (inb inb') :
    View.readCov arg18.view [⟨Rect.unit (s := S256x768) ![0, 0] S256x768.size inb', P⟩]
      (Rect.unit (s := S256x768) ![0, 0] S128x768.size inb).toLoadRect = half P 0 := by
  refine (readAt_half arg18 _ 0 0 rfl inb).trans ?_
  rw [read_whole (M := arg18) _ ![0, 0] _ _ _ (by decide)]

/-- and so is the second, past the store of the first. -/
theorem readCov_half1 (P : Vec F S256x768 .f32) (W : Vec F S128x768 .f32) (inb inb' inb'') :
    View.readCov arg18.view [⟨Rect.unit (s := S256x768) ![0, 0] S128x768.size inb'', W⟩, ⟨Rect.unit (s := S256x768) ![0, 0] S256x768.size inb', P⟩]
      (Rect.unit (s := S256x768) ![128, 0] S128x768.size inb).toLoadRect = half P 1 := by
  refine (readAt_half arg18 _ 128 1 rfl inb).trans ?_
  funext x
  refine (View.read_writes_cons_rows_of_not_mem (d := ![256, 768]) arg18.view _ _ _ _ _ (o := 0) (W := 128) rfl rfl
    (Or.inr (Nat.le_add_right 128 _))).trans ?_
  exact congrFun (read_whole (M := arg18) _ ![0, 0] _ _ _ (by decide)) _

end Cert.KernelIdeal.Body
-- ==== Proof.FirstI.lean ====
/-
  The kernel's body at the first grid point, run over any memrefs.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI
public import proofs.«01_k».proof.Proof.BodyReadI

@[expose] public section

set_option maxRecDepth 16384
set_option warn.classDefReducibility false

noncomputable section

namespace Cert.KernelIdeal.Body

open Cert.KernelIdeal Cert.KernelIdeal.Tables Cert.KernelIdeal.Loops Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)

/-- After the three loops the re-tiled accumulator is in place. -/
theorem isAD_first (hc1 : k0_cond1 i = 1#1)
    (f1 : BufTy.Contents (Elt F) arg1.view.ty)
    (f2 : BufTy.Contents (Elt F) arg2.view.ty)
    (f3 : BufTy.Contents (Elt F) arg3.view.ty)
    (f14 : BufTy.Contents (Elt F) arg14.view.ty)
    (f17 : BufTy.Contents (Elt F) arg17.view.ty)
    (f15 f15' : BufTy.Contents (Elt F) arg15.view.ty) (f16 : BufTy.Contents (Elt F) arg16.view.ty)
    (h15 : arg15.view.read (Elt F) f15 = Mv) (h16 : arg16.view.read (Elt F) f16 = k0_pay2 (F := F))
    (hchk : ∀ k, k0_chk1 i (word i hc1 arg1 f1 k) (word i hc1 arg2 f2 k)) :
    IsAD (A4 (arg1.view.read (Elt F) f1) (arg2.view.read (Elt F) f2) (BT (arg3.view.read (Elt F) f3)) Mv 3072) (arg17.view.read (Elt F)
      (t3c i arg16 arg17 hc1 (t2c i arg1 arg2 arg14 arg15 arg16 hc1 f1 f2
          (t1c i arg3 arg14 hc1 f3 f14 (Scf.trips k0_t1_loop.lb k0_t1_loop.ub k0_t1_loop.st)) f15 hchk f16
            (Scf.trips k0_t2_loop.lb k0_t2_loop.ub k0_t2_loop.st)) f17 (Scf.trips k0_t3_loop.lb k0_t3_loop.ub k0_t3_loop.st))) := by
  have e1 : Scf.trips k0_t1_loop.lb k0_t1_loop.ub k0_t1_loop.st = 24 := trips1
  have e2 : Scf.trips k0_t2_loop.lb k0_t2_loop.ub k0_t2_loop.st = 3072 := trips2
  have e3 : Scf.trips k0_t3_loop.lb k0_t3_loop.ub k0_t3_loop.st = 64 := trips3
  rw [e1, e2, e3]
  have h := read_t3 i arg16 arg17 hc1 (t2c i arg1 arg2 arg14 arg15 arg16 hc1 f1 f2 (t1c i arg3 arg14 hc1 f3 f14 24) f15 hchk f16 3072) f17
  rw [read_t2c i arg1 arg2 arg14 arg15 arg16 hc1 f1 f2 _ f15 hchk f16 h16 3072 le_rfl, read_t1, h15] at h
  exact h

set_option maxHeartbeats 400000 in
/-- THE FIRST POINT: the three loops, then the point's update of the sum, from zero. -/
theorem first (hc1 : k0_cond1 i = 1#1) (hc2 : k0_cond2 i = 1#1) (hc3 : ¬ k0_cond3 i = 1#1) (t : Fin 25) (ht : (i 0).val = t.val)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (hchk : ∀ k, k0_chk1 i (word i hc1 arg1 f1 k) (word i hc1 arg2 f2 k)) :
    iprop(held c arg1 f1 ∗ held c arg2 f2 ∗ held c arg3 f3 ∗ held c arg4 f4 ∗ held c arg6 f6 ∗ held c arg7 f7 ∗ held c arg8 f8 ∗ held c arg14 f14 ∗ held c arg15 f15 ∗ held c arg16 f16 ∗ held c arg17 f17 ∗ held c arg18 f18)
      ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(held c arg1 f1 ∗ held c arg2 f2 ∗ held c arg3 f3 ∗ held c arg4 f4 ∗ held c arg6 f6 ∗ held c arg7 f7 ∗ held c arg8 f8
            ∗ (∃ f, held c arg14 f) ∗ (∃ f, held c arg15 f) ∗ (∃ f, held c arg16 f)
            ∗ (∃ f, held c arg17 f ∗ ⌜IsAD (A4 (arg1.view.read (Elt F) f1) (arg2.view.read (Elt F) f2) (BT (arg3.view.read (Elt F) f3)) Mv 3072) (arg17.view.read (Elt F) f)⌝)
            ∗ ∃ f, held c arg18 f ∗ ⌜arg18.view.read (Elt F) f = accStep (arg6.view.read (Elt F) f6) (arg7.view.read (Elt F) f7) (wsRow (arg8.view.read (Elt F) f8) t) (xsRow (arg4.view.read (Elt F) f4) 0) (xsRow (arg4.view.read (Elt F) f4) 1)
                (adBlk (A4 (arg1.view.read (Elt F) f1) (arg2.view.read (Elt F) f2) (BT (arg3.view.read (Elt F) f3)) Mv 3072) ⟨t.val, by omega⟩ 0) (adBlk (A4 (arg1.view.read (Elt F) f1) (arg2.view.read (Elt F) f2) (BT (arg3.view.read (Elt F) f3)) Mv 3072) ⟨t.val, by omega⟩ 1) (k0_pay9 (F := F))⌝)) := by
  rw [cc0_spline_conv_eq_skeleton]
  unfold cc0_spline_conv_skel
  let L1 := loop1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 f3 f14
  iintro ⟨H1, H2, H3, H4, H6, H7, H8, H14, H15, H16, H17, H18⟩
  sl_exec (disch := first | sl_exact hc1 | sl_exact hc2 | sl_exact hc3)
  sl_step
  have hz : ∀ a : Fin 2, (![0, 0] : Fin 2 → ℕ) a = 0 := by decide
  have hz3 : ∀ a : Fin 3, (![0, 0, 0] : Fin 3 → ℕ) a = 0 := by decide
  have hAD := isAD_first i arg1 arg2 arg3 arg14 arg15 arg16 arg17 hc1 f1 f2 f3 f14 f17 _ f15 _
    (read_whole (M := arg15) arg15.view.junk ![0, 0] inb_S8x128_S8x128_0_0 (Mv (F := F)) [] hz)
    (read_whole (M := arg16) arg16.view.junk ![0, 0] inb_S8192x128_S8192x128_0_0 (k0_pay2 (F := F)) [] hz) hchk
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H14]; · iexists _; iexact H14
  isplitl [H15]; · iexists _; iexact H15
  isplitl [H16]; · iexists _; iexact H16
  isplitl [H17]
  · iexists _; isplitl [H17]; · iexact H17
    ipureintro
    exact hAD
  iexists _; isplitl [H18]; iexact H18
  ipureintro
  sl_unfold_run_names
  exact read_step arg18 f18 _ _ _ (readAt_whole (M := arg6) f6 _ _ hz) (readAt_whole (M := arg7) f7 _ _ hz3)
    (readAt_ws i arg8 f8 t ht hc2) (readAt_ad i arg17 _ _ hAD ⟨t.val, by omega⟩ ht hc2 0) (readAt_ad i arg17 _ _ hAD ⟨t.val, by omega⟩ ht hc2 1)
    (readAt_xs arg4 f4 0 _) (readAt_xs arg4 f4 1 _) (readCov_half0 arg18 _ _ _) (readCov_half1 arg18 _ _ _ _ _)
end Cert.KernelIdeal.Body
-- ==== Proof.MidI.lean ====
/-
  The kernel's body at a grid point between the first and the last, run over any memrefs.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI
public import proofs.«01_k».proof.Proof.BodyReadI

@[expose] public section

set_option maxRecDepth 16384
set_option warn.classDefReducibility false

noncomputable section

namespace Cert.KernelIdeal.Body

open Cert.KernelIdeal Cert.KernelIdeal.Tables Cert.KernelIdeal.Loops Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)

set_option maxHeartbeats 400000 in
/-- A POINT BETWEEN: the point's update of the sum. -/
theorem mid (hc1 : ¬ k0_cond1 i = 1#1) (hc2 : k0_cond2 i = 1#1) (hc3 : ¬ k0_cond3 i = 1#1) (t : Fin 25) (ht : (i 0).val = t.val)
    (f4 : BufTy.Contents (Elt F) arg4.view.ty)
    (f6 : BufTy.Contents (Elt F) arg6.view.ty)
    (f7 : BufTy.Contents (Elt F) arg7.view.ty)
    (f8 : BufTy.Contents (Elt F) arg8.view.ty)
    (f17 : BufTy.Contents (Elt F) arg17.view.ty)
    (f18 : BufTy.Contents (Elt F) arg18.view.ty)
    (A : Vec F S8192x128 .f32) (hAD : IsAD A (arg17.view.read (Elt F) f17)) :
    iprop(held c arg4 f4 ∗ held c arg6 f6 ∗ held c arg7 f7 ∗ held c arg8 f8 ∗ held c arg17 f17 ∗ held c arg18 f18)
      ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(held c arg4 f4 ∗ held c arg6 f6 ∗ held c arg7 f7 ∗ held c arg8 f8 ∗ held c arg17 f17
            ∗ ∃ f, held c arg18 f ∗ ⌜arg18.view.read (Elt F) f = accStep (arg6.view.read (Elt F) f6) (arg7.view.read (Elt F) f7) (wsRow (arg8.view.read (Elt F) f8) t) (xsRow (arg4.view.read (Elt F) f4) 0) (xsRow (arg4.view.read (Elt F) f4) 1)
                (adBlk A ⟨t.val, by omega⟩ 0) (adBlk A ⟨t.val, by omega⟩ 1) (arg18.view.read (Elt F) f18)⌝)) := by
  rw [cc0_spline_conv_eq_skeleton]
  unfold cc0_spline_conv_skel
  iintro ⟨H4, H6, H7, H8, H17, H18⟩
  sl_exec (disch := first | sl_exact hc1 | sl_exact hc2 | sl_exact hc3)
  sl_step
  have hz : ∀ a : Fin 2, (![0, 0] : Fin 2 → ℕ) a = 0 := by decide
  have hz3 : ∀ a : Fin 3, (![0, 0, 0] : Fin 3 → ℕ) a = 0 := by decide
  isplitl [H4]; · iexact H4
  isplitl [H6]; · iexact H6
  isplitl [H7]; · iexact H7
  isplitl [H8]; · iexact H8
  isplitl [H17]; · iexact H17
  iexists _; isplitl [H18]; iexact H18
  ipureintro
  sl_unfold_run_names
  exact read_step arg18 f18 [] _ _ (readAt_whole (M := arg6) f6 _ _ hz) (readAt_whole (M := arg7) f7 _ _ hz3)
    (readAt_ws i arg8 f8 t ht hc2) (readAt_ad i arg17 _ _ hAD ⟨t.val, by omega⟩ ht hc2 0) (readAt_ad i arg17 _ _ hAD ⟨t.val, by omega⟩ ht hc2 1)
    (readAt_xs arg4 f4 0 _) (readAt_xs arg4 f4 1 _) (readAt_half arg18 f18 0 0 rfl _) (readAt_half arg18 f18 128 1 rfl _)
end Cert.KernelIdeal.Body
-- ==== Proof.LastI.lean ====
/-
  The kernel's body at the last grid point, run over any memrefs.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI
public import proofs.«01_k».proof.Proof.BodyReadI

@[expose] public section

set_option maxRecDepth 16384
set_option warn.classDefReducibility false

noncomputable section

namespace Cert.KernelIdeal.Body

open Cert.KernelIdeal Cert.KernelIdeal.Tables Cert.KernelIdeal.Loops Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)

set_option maxHeartbeats 400000 in
/-- THE LAST POINT: the two results. -/
theorem last (hc1 : ¬ k0_cond1 i = 1#1) (hc2 : ¬ k0_cond2 i = 1#1) (hc3 : k0_cond3 i = 1#1)
    (f5 : BufTy.Contents (Elt F) arg5.view.ty)
    (f6 : BufTy.Contents (Elt F) arg6.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f17 : BufTy.Contents (Elt F) arg17.view.ty)
    (f18 : BufTy.Contents (Elt F) arg18.view.ty)
    (A : Vec F S8192x128 .f32) (hAD : IsAD A (arg17.view.read (Elt F) f17)) :
    iprop(held c arg5 f5 ∗ held c arg6 f6 ∗ held c arg9 f9 ∗ held c arg10 f10 ∗ held c arg11 f11 ∗ held c arg12 f12 ∗ held c arg13 f13 ∗ held c arg17 f17 ∗ held c arg18 f18)
      ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(held c arg5 f5 ∗ held c arg6 f6 ∗ held c arg9 f9 ∗ held c arg10 f10 ∗ held c arg11 f11
            ∗ (∃ f, held c arg12 f ∗ ⌜arg12.view.read (Elt F) f = k0_pay11 (arg6.view.read (Elt F) f6) (arg9.view.read (Elt F) f9) (arg5.view.read (Elt F) f5) (arg10.view.read (Elt F) f10) (degBlk A) (arg18.view.read (Elt F) f18) (arg11.view.read (Elt F) f11)⌝)
            ∗ (∃ f, held c arg13 f ∗ ⌜arg13.view.read (Elt F) f = k0_pay10 (degBlk A) (arg18.view.read (Elt F) f18)⌝)
            ∗ held c arg17 f17 ∗ held c arg18 f18)) := by
  rw [cc0_spline_conv_eq_skeleton]
  unfold cc0_spline_conv_skel
  iintro ⟨H5, H6, H9, H10, H11, H12, H13, H17, H18⟩
  sl_exec (disch := first | sl_exact hc1 | sl_exact hc2 | sl_exact hc3)
  sl_step
  have hz : ∀ a : Fin 2, (![0, 0] : Fin 2 → ℕ) a = 0 := by decide
  have hdeg := readAt_deg arg17 A f17 hAD inb_S8448x128_S256x128_6600_0
  isplitl [H5]; · iexact H5
  isplitl [H6]; · iexact H6
  isplitl [H9]; · iexact H9
  isplitl [H10]; · iexact H10
  isplitl [H11]; · iexact H11
  isplitl [H12]
  · iexists _; isplitl [H12]; · iexact H12
    ipureintro
    sl_unfold_run_names
    rw [read_whole (M := arg12) _ ![0, 0] _ _ _ hz, hdeg]
    rw [readAt_whole (M := arg6) f6 _ _ hz, readAt_whole (M := arg9) f9 _ _ hz, readAt_whole (M := arg5) f5 _ _ hz,
      readAt_whole (M := arg10) f10 _ _ hz, readAt_whole (M := arg11) f11 _ _ hz, readAt_whole (M := arg18) f18 _ _ hz]
  isplitl [H13]
  · iexists _; isplitl [H13]; · iexact H13
    ipureintro
    sl_unfold_run_names
    rw [read_whole (M := arg13) _ ![0, 0] _ _ _ hz, hdeg, readAt_whole (M := arg18) f18 _ _ hz]
  isplitl [H17]; · iexact H17
  iexact H18

end Cert.KernelIdeal.Body
-- ==== Proof.PointI.lean ====
/-
  The kernel's body at each kind of grid point, with what the point does not touch carried through.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI
public import proofs.«01_k».proof.Proof.BodyReadI
public import proofs.«01_k».proof.Proof.FirstI
public import proofs.«01_k».proof.Proof.MidI
public import proofs.«01_k».proof.Proof.LastI

@[expose] public section

set_option maxRecDepth 16384
set_option warn.classDefReducibility false

noncomputable section

namespace Cert.KernelIdeal.Body

open Cert.KernelIdeal Cert.KernelIdeal.Tables Cert.KernelIdeal.Loops Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
variable (arg1 : Memref sig .tc .smem S3072 .i32) (harg1 : arg1.IsWhole)
variable (arg2 : Memref sig .tc .smem S3072 .i32) (harg2 : arg2.IsWhole)
variable (arg3 : Memref sig .tc .vmem S2x24x128 .f32) (harg3 : arg3.IsWhole)
variable (arg4 : Memref sig .tc .vmem S2x128 .f32) (harg4 : arg4.IsWhole)
variable (arg5 : Memref sig .tc .vmem S256x1 .f32) (harg5 : arg5.IsWhole)
variable (arg6 : Memref sig .tc .vmem S256x4096 .fp8e4m3) (harg6 : arg6.IsWhole)
variable (arg7 : Memref sig .tc .vmem S1x4096x768 .fp8e4m3) (harg7 : arg7.IsWhole)
variable (arg8 : Memref sig .tc .vmem S25x768 .f32) (harg8 : arg8.IsWhole)
variable (arg9 : Memref sig .tc .vmem S4096x768 .fp8e4m3) (harg9 : arg9.IsWhole)
variable (arg10 : Memref sig .tc .vmem S1x768 .f32) (harg10 : arg10.IsWhole)
variable (arg11 : Memref sig .tc .vmem S1x768 .f32) (harg11 : arg11.IsWhole)
variable (arg12 : Memref sig .tc .vmem S256x768 .bf16) (harg12 : arg12.IsWhole)
variable (arg13 : Memref sig .tc .vmem S256x768 .f32) (harg13 : arg13.IsWhole)
variable (arg14 : Memref sig .tc .vmem S3072x128 .f32) (harg14 : arg14.IsWhole)
variable (arg15 : Memref sig .tc .vmem S8x128 .f32) (harg15 : arg15.IsWhole)
variable (arg16 : Memref sig .tc .vmem S8192x128 .f32) (harg16 : arg16.IsWhole)
variable (arg17 : Memref sig .tc .vmem S8448x128 .f32) (harg17 : arg17.IsWhole)
variable (arg18 : Memref sig .tc .vmem S256x768 .f32) (harg18 : arg18.IsWhole)

variable (O R : sProp (MT nD τ sig Unit (Elt F) ℕ (UR sig nD τ) ℕ))
variable (X1 : Vec F S3072 .i32)
variable (X2 : Vec F S3072 .i32)
variable (X3 : Vec F S2x24x128 .f32)
variable (X4 : Vec F S2x128 .f32)
variable (X5 : Vec F S256x1 .f32)
variable (X6 : Vec F S256x4096 .fp8e4m3)
variable (X7 : Vec F S1x4096x768 .fp8e4m3)
variable (X8 : Vec F S25x768 .f32)
variable (X9 : Vec F S4096x768 .fp8e4m3)
variable (X10 : Vec F S1x768 .f32)
variable (X11 : Vec F S1x768 .f32)
variable (A : Vec F S8192x128 .f32) (acc acc' : Vec F S256x768 .f32)

/-- The scratch arrays once the re-tiled accumulator is in place and the running sum is `acc`. -/
abbrev scr (Q : sProp 𝕄G) (A0 : Vec F S8192x128 .f32) (u : Vec F S256x768 .f32) : sProp 𝕄G :=
  iprop((∃ f, held c arg14 f) ∗ (∃ f, held c arg15 f) ∗ (∃ f, held c arg16 f)
    ∗ (∃ f, held c arg17 f ∗ ⌜IsAD A0 (arg17.view.read (Elt F) f)⌝)
    ∗ (∃ f, held c arg18 f ∗ ⌜arg18.view.read (Elt F) f = u⌝) ∗ Q)

/-- The input windows at their blocks, before what follows them. -/
abbrev ins (Z : sProp 𝕄G) : sProp 𝕄G :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ Z)

variable (Z : sProp (MT nD τ sig Unit (Elt F) ℕ (UR sig nD τ) ℕ))

/-- A point between the first and the last. -/
theorem mid_pt (hc1 : ¬ k0_cond1 i = 1#1) (hc2 : k0_cond2 i = 1#1) (hc3 : ¬ k0_cond3 i = 1#1) (t : Fin 25) (ht : (i 0).val = t.val)
    (hacc : accStep X6 X7 (wsRow X8 t) (xsRow X4 0) (xsRow X4 1) (adBlk A ⟨t.val, by omega⟩ 0) (adBlk A ⟨t.val, by omega⟩ 1) acc = acc') :
    iprop(scr c arg14 arg15 arg16 arg17 arg18 R A acc ∗ O ∗ ins c arg1 arg2 arg3 arg4 arg5 arg6 arg7 arg8 arg9 arg10 arg11 X1 X2 X3 X4 X5 X6 X7 X8 X9 X10 X11 Z) ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun _ => iprop(scr c arg14 arg15 arg16 arg17 arg18 R A acc' ∗ O ∗ ins c arg1 arg2 arg3 arg4 arg5 arg6 arg7 arg8 arg9 arg10 arg11 X1 X2 X3 X4 X5 X6 X7 X8 X9 X10 X11 Z)) := by
  unfold scr ins owns
  iintro ⟨⟨HS0, HS1, HS2, ⟨%f17, H17, %hAD⟩, ⟨%f18, H18, %hf18⟩, HR⟩, HO, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, HZ⟩
  have run := mid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 t ht f4 f6 f7 f8 f17 f18 A hAD
  rw [hf4, hf6, hf7, hf8, hf18, hacc] at run
  iapply (wp_wand_r frame (wpE (defs₀ (F := F)) Variants.none (c : Thread nD τ) none) Set.univ)
  isplitl [H4 H6 H7 H8 H17 H18]
  · iapply run
    isplitl [H4]; · iexact H4
    isplitl [H6]; · iexact H6
    isplitl [H7]; · iexact H7
    isplitl [H8]; · iexact H8
    isplitl [H17]; · iexact H17
    iexact H18
  iintro %_ ⟨H4, H6, H7, H8, H17, %g, H18, %hg⟩
  isplitl [HS0 HS1 HS2 H17 H18 HR]
  · isplitl [HS0]; · iexact HS0
    isplitl [HS1]; · iexact HS1
    isplitl [HS2]; · iexact HS2
    isplitl [H17]
    · iexists f17; isplitl [H17]; · iexact H17
      ipureintro; exact hAD
    isplitl [H18]
    · iexists g; isplitl [H18]; · iexact H18
      ipureintro; exact hg
    iexact HR
  isplitl [HO]; · iexact HO
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  iexact HZ

/-- The first point. -/
theorem first_pt (hc1 : k0_cond1 i = 1#1) (hc2 : k0_cond2 i = 1#1) (hc3 : ¬ k0_cond3 i = 1#1) (t : Fin 25) (ht : (i 0).val = t.val)
    (hchk : ∀ k : Fin 3072, ∀ s, k0_chk1 i s (X2 (ix1 k))) (hA : A4 X1 X2 (BT X3) Mv 3072 = A)
    (hacc : accStep X6 X7 (wsRow X8 t) (xsRow X4 0) (xsRow X4 1) (adBlk A ⟨t.val, by omega⟩ 0) (adBlk A ⟨t.val, by omega⟩ 1) (k0_pay9 (F := F)) = acc') :
    iprop((((∃ f, held c arg14 f) ∗ (∃ f, held c arg15 f) ∗ (∃ f, held c arg16 f) ∗ (∃ f, held c arg17 f) ∗ (∃ f, held c arg18 f)) ∗ R)
      ∗ O ∗ ins c arg1 arg2 arg3 arg4 arg5 arg6 arg7 arg8 arg9 arg10 arg11 X1 X2 X3 X4 X5 X6 X7 X8 X9 X10 X11 Z) ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun _ => iprop(scr c arg14 arg15 arg16 arg17 arg18 R A acc' ∗ O ∗ ins c arg1 arg2 arg3 arg4 arg5 arg6 arg7 arg8 arg9 arg10 arg11 X1 X2 X3 X4 X5 X6 X7 X8 X9 X10 X11 Z)) := by
  unfold scr ins owns
  iintro ⟨⟨⟨⟨%f14, H14⟩, ⟨%f15, H15⟩, ⟨%f16, H16⟩, ⟨%f17, H17⟩, ⟨%f18, H18⟩⟩, HR⟩, HO, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, HZ⟩
  have run := first (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 t ht f1 f2 f3 f4 f6 f7 f8 f14 f15 f16 f17 f18
    (fun k => by rw [word_eq (F := F) i hc1 arg2 f2 k (lt_of_lt_of_eq k.isLt trips2), hf2]; exact hchk _ _)
  rw [hf1, hf2, hf3, hf4, hf6, hf7, hf8, hA, hacc] at run
  iapply (wp_wand_r frame (wpE (defs₀ (F := F)) Variants.none (c : Thread nD τ) none) Set.univ)
  isplitl [H1 H2 H3 H4 H6 H7 H8 H14 H15 H16 H17 H18]
  · iapply run
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H14]; · iexact H14
    isplitl [H15]; · iexact H15
    isplitl [H16]; · iexact H16
    isplitl [H17]; · iexact H17
    iexact H18
  iintro %_ ⟨H1, H2, H3, H4, H6, H7, H8, H14, H15, H16, H17, H18⟩
  isplitl [H14 H15 H16 H17 H18 HR]
  · isplitl [H14]; · iexact H14
    isplitl [H15]; · iexact H15
    isplitl [H16]; · iexact H16
    isplitl [H17]; · iexact H17
    isplitl [H18]; · iexact H18
    iexact HR
  isplitl [HO]; · iexact HO
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  iexact HZ

variable (X12 : Vec F S256x768 .bf16) (X13 : Vec F S256x768 .f32)

/-- The last point. -/
theorem last_pt (hc1 : ¬ k0_cond1 i = 1#1) (hc2 : ¬ k0_cond2 i = 1#1) (hc3 : k0_cond3 i = 1#1)
    (h12 : k0_pay11 X6 X9 X5 X10 (degBlk A) acc X11 = X12) (h13 : k0_pay10 (degBlk A) acc = X13) :
    iprop(scr c arg14 arg15 arg16 arg17 arg18 R A acc ∗ O ∗ ins c arg1 arg2 arg3 arg4 arg5 arg6 arg7 arg8 arg9 arg10 arg11 X1 X2 X3 X4 X5 X6 X7 X8 X9 X10 X11 iprop((∃ X, owns (c : Thread nD τ) arg12 fullShare X) ∗ (∃ X, owns (c : Thread nD τ) arg13 fullShare X))) ⊢ wp frame (wpE (defs₀ (F := F)) Variants.none (c : Thread nD τ) none) Set.univ (cc0_spline_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun _ => iprop(scr c arg14 arg15 arg16 arg17 arg18 R A acc ∗ O ∗ ins c arg1 arg2 arg3 arg4 arg5 arg6 arg7 arg8 arg9 arg10 arg11 X1 X2 X3 X4 X5 X6 X7 X8 X9 X10 X11 iprop(owns (c : Thread nD τ) arg12 fullShare X12 ∗ owns (c : Thread nD τ) arg13 fullShare X13))) := by
  unfold scr ins owns
  iintro ⟨⟨HS0, HS1, HS2, ⟨%f17, H17, %hAD⟩, ⟨%f18, H18, %hf18⟩, HR⟩, HO, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%x12, %f12, %hf12, H12⟩, ⟨%x13, %f13, %hf13, H13⟩⟩
  have run := last (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 f5 f6 f9 f10 f11 f12 f13 f17 f18 A hAD
  rw [hf5, hf6, hf9, hf10, hf11, hf18, h12, h13] at run
  iapply (wp_wand_r frame (wpE (defs₀ (F := F)) Variants.none (c : Thread nD τ) none) Set.univ)
  isplitl [H5 H6 H9 H10 H11 H12 H13 H17 H18]
  · iapply run
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H17]; · iexact H17
    iexact H18
  iintro %_ ⟨H5, H6, H9, H10, H11, ⟨%g12, H12, %hg12⟩, ⟨%g13, H13, %hg13⟩, H17, H18⟩
  isplitl [HS0 HS1 HS2 H17 H18 HR]
  · isplitl [HS0]; · iexact HS0
    isplitl [HS1]; · iexact HS1
    isplitl [HS2]; · iexact HS2
    isplitl [H17]
    · iexists f17; isplitl [H17]; · iexact H17
      ipureintro; exact hAD
    isplitl [H18]
    · iexists f18; isplitl [H18]; · iexact H18
      ipureintro; exact hf18
    iexact HR
  isplitl [HO]; · iexact HO
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists g12; isplitr; · ipureintro; exact hg12
    iexact H12
  iexists g13; isplitr; · ipureintro; exact hg13
  iexact H13

end Cert.KernelIdeal.Body
-- ==== Proof.DatI.lean ====
/-
  The pipeline's proof data: what the windows and the scratch arrays hold at each grid point, and the body obligation.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import proofs.«01_k».proof.Proof.TablesI
public import proofs.«01_k».proof.Proof.LoopsI
public import proofs.«01_k».proof.Proof.BodyReadI
public import proofs.«01_k».proof.Proof.FirstI
public import proofs.«01_k».proof.Proof.MidI
public import proofs.«01_k».proof.Proof.LastI
public import proofs.«01_k».proof.Proof.PointI
public import Idealize.ShloMosaic.Lib.Pipeline.Frame
public import Idealize.ShloMosaic.Lib.Pipeline.FrameBody
public import Idealize.ShloMosaic.Lib.Quiescent

@[expose] public section

set_option maxRecDepth 16384
set_option warn.classDefReducibility false

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

abbrev 𝒱₀ : Variants := Variants.none

/-- The first and the last grid point. -/
abbrev tFst : Fin cfg0.N := ⟨0, by rw [show cfg0.N = 26 from N_0]; decide⟩
abbrev tLst : Fin cfg0.N := ⟨25, by rw [show cfg0.N = 26 from N_0]; decide⟩

/-- The accumulator over all the edges. -/
def AA (c : Dev nD) : Vec F S8192x128 .f32 := A4 (iblk m c 0 tFst) (iblk m c 1 tFst) (BT (iblk m c 2 tFst)) Mv 3072

/-- The running sum before grid point `t`. -/
def ACC (c : Dev nD) : ℕ → Vec F S256x768 .f32
  | 0 => k0_pay9 (F := F)
  | t + 1 => if h : t < 25 then
      accStep (iblk m c 5 ⟨t, by rw [show cfg0.N = 26 from N_0]; omega⟩) (iblk m c 6 ⟨t, by rw [show cfg0.N = 26 from N_0]; omega⟩)
        (wsRow (iblk m c 7 ⟨t, by rw [show cfg0.N = 26 from N_0]; omega⟩) ⟨t, h⟩)
        (xsRow (iblk m c 3 ⟨t, by rw [show cfg0.N = 26 from N_0]; omega⟩) 0) (xsRow (iblk m c 3 ⟨t, by rw [show cfg0.N = 26 from N_0]; omega⟩) 1)
        (adBlk (AA m c) ⟨t, by omega⟩ 0) (adBlk (AA m c) ⟨t, by omega⟩ 1) (ACC c t)
    else ACC c t

theorem ACC_step (c : Dev nD) (t : Fin cfg0.N) (h : t.val < 25) : ACC m c (t.val + 1) =
    accStep (iblk m c 5 t) (iblk m c 6 t) (wsRow (iblk m c 7 t) ⟨t.val, h⟩) (xsRow (iblk m c 3 t) 0) (xsRow (iblk m c 3 t) 1)
        (adBlk (AA m c) ⟨t.val, by omega⟩ 0) (adBlk (AA m c) ⟨t.val, by omega⟩ 1) (ACC m c t.val) := by
  rw [ACC, dif_pos h]

/-- The second result: the running sum over the counts of edges. -/
def AGG (c : Dev nD) : Vec F S256x768 .f32 := k0_pay10 (degBlk (AA m c)) (ACC m c 25)
/-- The first result. -/
def OUT (c : Dev nD) : Vec F S256x768 .bf16 :=
  k0_pay11 (iblk m c 5 tLst) (iblk m c 8 tLst) (iblk m c 4 tLst) (iblk m c 9 tLst) (degBlk (AA m c)) (ACC m c 25) (iblk m c 10 tLst)

/-- Between two grid points: the scratch arrays at anything before the first; after it the re-tiled accumulator in place and the
    running sum at its value. -/
def PhiS (c : Dev nD) (n : ℕ) (_ : n ≤ cfg0.N) : sProp 𝕄G :=
  match n with
  | 0 => Pipeline.ΦA spec0 c
  | k + 1 => iprop((∃ f, held c (Memref.whole cc0_scratch0) f) ∗ (∃ f, held c (Memref.whole cc0_scratch1) f) ∗ (∃ f, held c (Memref.whole cc0_scratch2) f)
      ∗ (∃ f, held c (Memref.whole cc0_scratch3) f ∗ ⌜IsAD (AA m c) ((Memref.whole cc0_scratch3).view.read (Elt F) f)⌝)
      ∗ (∃ f, held c (Memref.whole cc0_scratch4) f ∗ ⌜(Memref.whole cc0_scratch4).view.read (Elt F) f = ACC m c (k + 1)⌝)
      ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => OUT m c
    | ⟨12, _⟩ => AGG m c
    | ⟨_ + 13, h⟩ => absurd h (Nat.not_lt.2 (Nat.le_add_left _ _))
  Φ t := PhiS m c t.val (Nat.le_of_lt_succ t.isLt)
  q _ := fullShare
  owed _ := 0

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem Phi_succ (c : Dev nD) (t : Fin cfg0.N) (n : ℕ) (h : t.val = n) : (dats m 0 c).Φ t.succ
    = iprop((∃ f, held c (Memref.whole cc0_scratch0) f) ∗ (∃ f, held c (Memref.whole cc0_scratch1) f) ∗ (∃ f, held c (Memref.whole cc0_scratch2) f)
      ∗ (∃ f, held c (Memref.whole cc0_scratch3) f ∗ ⌜IsAD (AA m c) ((Memref.whole cc0_scratch3).view.read (Elt F) f)⌝)
      ∗ (∃ f, held c (Memref.whole cc0_scratch4) f ∗ ⌜(Memref.whole cc0_scratch4).view.read (Elt F) f = ACC m c (n + 1)⌝)
      ∗ ∃ r, prngReg c r) := by
  subst h; rfl

/-! ## The conditions of the three kinds of grid point -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val < 25 := by decide +kernel
theorem cond3_iff : ∀ t : Fin cfg0.N, k0_cond3 (grid0.coords t) = 1#1 ↔ t.val = 25 := by decide +kernel
theorem coord_eq : ∀ t : Fin cfg0.N, (grid0.coords t 0).val = t.val := by decide +kernel

/-! ## A word that names a row -/

/-- The row of the masks a destination names, -/
theorem off6_val (d : BitVec 32) : k0_off6 d 0 = d.toNat % 4 := by
  show (d &&& 3#32).toNat = _
  rw [BitVec.toNat_and]
  exact Nat.and_two_pow_sub_one_eq_mod _ 2

/-- and the row of the accumulator an edge in range names. -/
theorem off7_val (s d : BitVec 32) (h : d.toNat < 256) : k0_off7 s d 0 = d.toNat / 4 * 128 + s.toNat % 128 := by
  have e0 : (Scalar.shrsi d 2#32) = d >>> 2 := by
    show d.sshiftRight' 2#32 = _
    exact BitVec.sshiftRight_eq_of_msb_false (by rw [BitVec.msb_eq_false_iff_two_mul_lt]; omega)
  show (Scalar.shrsi d 2#32 * 128#32 + (s &&& 127#32)).toNat = _
  have e1 : (s &&& 127#32).toNat = s.toNat % 128 := by
    rw [BitVec.toNat_and]; exact Nat.and_two_pow_sub_one_eq_mod _ 7
  rw [e0, BitVec.toNat_add, BitVec.toNat_mul, e1, BitVec.toNat_ushiftRight, Nat.shiftRight_eq_div_pow]
  have : s.toNat % 128 < 128 := Nat.mod_lt _ (by decide)
  show (d.toNat / 4 * 128 % 4294967296 + s.toNat % 128) % 4294967296 = _
  omega

theorem off6_one (d : BitVec 32) : k0_off6 d 1 = 0 := rfl
theorem off7_one (s d : BitVec 32) : k0_off7 s d 1 = 0 := rfl

/-- A destination in range names a row of the accumulator and a row of the masks. -/
theorem chk_of (i : grid0.Coords) (s d : BitVec 32) (h : d.toNat < 256) : k0_chk1 i s d := by
  have h6 := off6_val d
  have h7 := off7_val s d h
  refine ⟨fun _ a => ?_, fun _ a => ?_⟩
  · match a with
    | ⟨0, _⟩ => show k0_off6 d 0 + 1 ≤ 8; omega
    | ⟨1, _⟩ => show k0_off6 d 1 + 128 ≤ 128; rw [off6_one]
  · match a with
    | ⟨0, _⟩ => show k0_off7 s d 0 + 1 ≤ 8192; omega
    | ⟨1, _⟩ => show k0_off7 s d 1 + 128 ≤ 128; rw [off7_one]

/-! ## The body at a point -/

/-- An output's buffer as the body obligation takes it back. -/
def outP (c : Dev nD) (w : Fin cfg0.W) (t : Fin cfg0.N) : sProp 𝕄G :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem idle11 (t : Fin cfg0.N) : cfg0.idle 11 (cfg0.grid.coords t) = !(k0_cond3 (grid0.coords t) == 1#1) := rfl
theorem idle12 (t : Fin cfg0.N) : cfg0.idle 12 (cfg0.grid.coords t) = !(k0_cond3 (grid0.coords t) == 1#1) := rfl

theorem outP_11_idle (c : Dev nD) (t : Fin cfg0.N) (h : t.val < 25) : outP m c 11 t =
    iprop(∃ d, owns (c : Thread nD τ) (st0_11 t) fullShare ((dats m 0 c).before 11 t d)) := by
  have e : cfg0.idle 11 (cfg0.grid.coords t) = true := by
    rw [idle11]; have : ¬ k0_cond3 (grid0.coords t) = 1#1 := fun h' => by have := (cond3_iff t).mp h'; omega
    simp [this]
  have e' : (cfg0.win 11).flush t = false := by
    rw [← Bool.not_eq_true]; intro h'; have := (flush0_11 t).mp h'; omega
  unfold outP; rw [e, e']

theorem outP_11_last (c : Dev nD) (t : Fin cfg0.N) (h : t.val = 25) : outP m c 11 t =
    owns (c : Thread nD τ) (st0_11 t) fullShare ((dats m 0 c).after 11 t) := by
  have e : cfg0.idle 11 (cfg0.grid.coords t) = false := by
    rw [idle11, (cond3_iff t).mpr h]; rfl
  unfold outP; rw [e]

theorem outP_12_idle (c : Dev nD) (t : Fin cfg0.N) (h : t.val < 25) : outP m c 12 t =
    iprop(∃ d, owns (c : Thread nD τ) (st0_12 t) fullShare ((dats m 0 c).before 12 t d)) := by
  have e : cfg0.idle 12 (cfg0.grid.coords t) = true := by
    rw [idle12]; have : ¬ k0_cond3 (grid0.coords t) = 1#1 := fun h' => by have := (cond3_iff t).mp h'; omega
    simp [this]
  have e' : (cfg0.win 12).flush t = false := by
    rw [← Bool.not_eq_true]; intro h'; have := (flush0_12 t).mp h'; omega
  unfold outP; rw [e, e']

theorem outP_12_last (c : Dev nD) (t : Fin cfg0.N) (h : t.val = 25) : outP m c 12 t =
    owns (c : Thread nD τ) (st0_12 t) fullShare ((dats m 0 c).after 12 t) := by
  have e : cfg0.idle 12 (cfg0.grid.coords t) = false := by
    rw [idle12, (cond3_iff t).mpr h]; rfl
  unfold outP; rw [e]

/-- Before and after the body, window by window. -/
abbrev PRE (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
abbrev POST (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ outP m c 11 t ∗ outP m c 12 t)

/-- An input window's buffer holds its block when the body runs. -/
theorem bef_0 (c : Dev nD) (t : Fin cfg0.N) : iprop(∃ d, owns (c : Thread nD τ) (st0_0 t) fullShare ((dats m 0 c).before 0 t d))
    ⊢ (owns (c : Thread nD τ) (st0_0 t) fullShare (iblk m c 0 t) : sProp 𝕄G) := by
  iintro ⟨%d, H⟩
  rw [before0_0_of m (dats m 0 c) rfl (fun _ => rfl) t d]
  iexact H
theorem bef_1 (c : Dev nD) (t : Fin cfg0.N) : iprop(∃ d, owns (c : Thread nD τ) (st0_1 t) fullShare ((dats m 0 c).before 1 t d))
    ⊢ (owns (c : Thread nD τ) (st0_1 t) fullShare (iblk m c 1 t) : sProp 𝕄G) := by
  iintro ⟨%d, H⟩
  rw [before0_1_of m (dats m 0 c) rfl (fun _ => rfl) t d]
  iexact H
theorem bef_2 (c : Dev nD) (t : Fin cfg0.N) : iprop(∃ d, owns (c : Thread nD τ) (st0_2 t) fullShare ((dats m 0 c).before 2 t d))
    ⊢ (owns (c : Thread nD τ) (st0_2 t) fullShare (iblk m c 2 t) : sProp 𝕄G) := by
  iintro ⟨%d, H⟩
  rw [before0_2_of m (dats m 0 c) rfl (fun _ => rfl) t d]
  iexact H
theorem bef_3 (c : Dev nD) (t : Fin cfg0.N) : iprop(∃ d, owns (c : Thread nD τ) (st0_3 t) fullShare ((dats m 0 c).before 3 t d))
    ⊢ (owns (c : Thread nD τ) (st0_3 t) fullShare (iblk m c 3 t) : sProp 𝕄G) := by
  iintro ⟨%d, H⟩
  rw [before0_3_of m (dats m 0 c) rfl (fun _ => rfl) t d]
  iexact H
theorem bef_4 (c : Dev nD) (t : Fin cfg0.N) : iprop(∃ d, owns (c : Thread nD τ) (st0_4 t) fullShare ((dats m 0 c).before 4 t d))
    ⊢ (owns (c : Thread nD τ) (st0_4 t) fullShare (iblk m c 4 t) : sProp 𝕄G) := by
  iintro ⟨%d, H⟩
  rw [before0_4_of m (dats m 0 c) rfl (fun _ => rfl) t d]
  iexact H
theorem bef_5 (c : Dev nD) (t : Fin cfg0.N) : iprop(∃ d, owns (c : Thread nD τ) (st0_5 t) fullShare ((dats m 0 c).before 5 t d))
    ⊢ (owns (c : Thread nD τ) (st0_5 t) fullShare (iblk m c 5 t) : sProp 𝕄G) := by
  iintro ⟨%d, H⟩
  rw [before0_5_of m (dats m 0 c) rfl (fun _ => rfl) t d]
  iexact H
theorem bef_6 (c : Dev nD) (t : Fin cfg0.N) : iprop(∃ d, owns (c : Thread nD τ) (st0_6 t) fullShare ((dats m 0 c).before 6 t d))
    ⊢ (owns (c : Thread nD τ) (st0_6 t) fullShare (iblk m c 6 t) : sProp 𝕄G) := by
  iintro ⟨%d, H⟩
  rw [before0_6_of m (dats m 0 c) rfl (fun _ => rfl) t d]
  iexact H
theorem bef_7 (c : Dev nD) (t : Fin cfg0.N) : iprop(∃ d, owns (c : Thread nD τ) (st0_7 t) fullShare ((dats m 0 c).before 7 t d))
    ⊢ (owns (c : Thread nD τ) (st0_7 t) fullShare (iblk m c 7 t) : sProp 𝕄G) := by
  iintro ⟨%d, H⟩
  rw [before0_7_of m (dats m 0 c) rfl (fun _ => rfl) t d]
  iexact H
theorem bef_8 (c : Dev nD) (t : Fin cfg0.N) : iprop(∃ d, owns (c : Thread nD τ) (st0_8 t) fullShare ((dats m 0 c).before 8 t d))
    ⊢ (owns (c : Thread nD τ) (st0_8 t) fullShare (iblk m c 8 t) : sProp 𝕄G) := by
  iintro ⟨%d, H⟩
  rw [before0_8_of m (dats m 0 c) rfl (fun _ => rfl) t d]
  iexact H
theorem bef_9 (c : Dev nD) (t : Fin cfg0.N) : iprop(∃ d, owns (c : Thread nD τ) (st0_9 t) fullShare ((dats m 0 c).before 9 t d))
    ⊢ (owns (c : Thread nD τ) (st0_9 t) fullShare (iblk m c 9 t) : sProp 𝕄G) := by
  iintro ⟨%d, H⟩
  rw [before0_9_of m (dats m 0 c) rfl (fun _ => rfl) t d]
  iexact H
theorem bef_10 (c : Dev nD) (t : Fin cfg0.N) : iprop(∃ d, owns (c : Thread nD τ) (st0_10 t) fullShare ((dats m 0 c).before 10 t d))
    ⊢ (owns (c : Thread nD τ) (st0_10 t) fullShare (iblk m c 10 t) : sProp 𝕄G) := by
  iintro ⟨%d, H⟩
  rw [before0_10_of m (dats m 0 c) rfl (fun _ => rfl) t d]
  iexact H

end Cert.KernelIdeal.Run

end
-- ==== Proof.SoundFirstI.lean ====
/-
  The body at the first grid point.
-/
module

public import proofs.«01_k».proof.Proof.DatI

@[expose] public section

set_option maxRecDepth 16384
set_option warn.classDefReducibility false

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- Before the first point the scratch arrays are whole at anything. -/
theorem Phi_in (c : Dev nD) : (Pipeline.ΦA spec0 c : sProp 𝕄G) ⊢
    iprop(((∃ f, held c (Memref.whole cc0_scratch0) f) ∗ (∃ f, held c (Memref.whole cc0_scratch1) f) ∗ (∃ f, held c (Memref.whole cc0_scratch2) f)
      ∗ (∃ f, held c (Memref.whole cc0_scratch3) f) ∗ (∃ f, held c (Memref.whole cc0_scratch4) f)) ∗ ∃ r, prngReg c r) := by
  unfold Pipeline.ΦA
  rw [scopedRest0_eq]
  unfold held
  simp only [View.set_whole]
  iintro ⟨⟨⟨%f0, H0⟩, ⟨%f1, H1⟩, ⟨%f2, H2⟩, ⟨%f3, H3⟩, ⟨%f4, H4⟩⟩, Hr⟩
  isplitr [Hr]
  · isplitl [H0]; · iexists f0; iexact H0
    isplitl [H1]; · iexists f1; iexact H1
    isplitl [H2]; · iexists f2; iexact H2
    isplitl [H3]; · iexists f3; iexact H3
    iexists f4; iexact H4
  iexact Hr

set_option maxHeartbeats 4000000 in
/-- The first point. -/
theorem sound_first (c : Dev nD) (hdst : ∀ k, BitVec.toNat ((iblk m c 1 tFst : Vec F S3072 .i32) k) < 256) (t : Fin cfg0.N) (h0 : t.val = 0) :
    PRE m c t ⊢ wp frame (wpE (defs₀ (F := F)) 𝒱₀ (c : Thread nD τ) none) Set.univ (bodyAt0 (F := F) t) (fun _ => POST m c t) := by
  obtain rfl : t = tFst := Fin.ext h0
  have hc1 : k0_cond1 (grid0.coords tFst) = 1#1 := (cond1_iff tFst).mpr rfl
  have hc2 : k0_cond2 (grid0.coords tFst) = 1#1 := (cond2_iff tFst).mpr (by decide)
  have hc3 : ¬ k0_cond3 (grid0.coords tFst) = 1#1 := fun h => by have := (cond3_iff tFst).mp h; exact absurd this (by decide)
  have ePhi : PhiS m c tFst.val (Nat.le_of_lt tFst.isLt) = Pipeline.ΦA spec0 c := rfl
  unfold PRE POST
  rw [outP_11_idle m c tFst (by decide), outP_12_idle m c tFst (by decide), Phi_succ m c tFst 0 rfl, Phi_castSucc, ePhi]
  exact triple_restated (first_pt (F := F) c (grid0.coords tFst) (win0_0.stage (cfg0.slots tFst 0)) (hstage0_0 ((cfg0.slots tFst 0).cast nbuf0_0)) (win0_1.stage (cfg0.slots tFst 1)) (hstage0_1 ((cfg0.slots tFst 1).cast nbuf0_1)) (win0_2.stage (cfg0.slots tFst 2)) (hstage0_2 ((cfg0.slots tFst 2).cast nbuf0_2)) (win0_3.stage (cfg0.slots tFst 3)) (hstage0_3 ((cfg0.slots tFst 3).cast nbuf0_3)) (win0_4.stage (cfg0.slots tFst 4)) (hstage0_4 ((cfg0.slots tFst 4).cast nbuf0_4)) (win0_5.stage (cfg0.slots tFst 5)) (hstage0_5 ((cfg0.slots tFst 5).cast nbuf0_5)) (win0_6.stage (cfg0.slots tFst 6)) (hstage0_6 ((cfg0.slots tFst 6).cast nbuf0_6)) (win0_7.stage (cfg0.slots tFst 7)) (hstage0_7 ((cfg0.slots tFst 7).cast nbuf0_7)) (win0_8.stage (cfg0.slots tFst 8)) (hstage0_8 ((cfg0.slots tFst 8).cast nbuf0_8)) (win0_9.stage (cfg0.slots tFst 9)) (hstage0_9 ((cfg0.slots tFst 9).cast nbuf0_9)) (win0_10.stage (cfg0.slots tFst 10)) (hstage0_10 ((cfg0.slots tFst 10).cast nbuf0_10)) (win0_11.stage (cfg0.slots tFst 11)) (hstage0_11 ((cfg0.slots tFst 11).cast nbuf0_11)) (win0_12.stage (cfg0.slots tFst 12)) (hstage0_12 ((cfg0.slots tFst 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((dats m 0 c).owesAt () tFst.castSucc) iprop(∃ r, prngReg c r)
      (iblk m c 0 tFst) (iblk m c 1 tFst) (iblk m c 2 tFst) (iblk m c 3 tFst) (iblk m c 4 tFst) (iblk m c 5 tFst) (iblk m c 6 tFst) (iblk m c 7 tFst) (iblk m c 8 tFst) (iblk m c 9 tFst) (iblk m c 10 tFst) (AA m c) (ACC m c (0 + 1))
      iprop((∃ d, owns (c : Thread nD τ) (st0_11 tFst) fullShare ((dats m 0 c).before 11 tFst d)) ∗ (∃ d, owns (c : Thread nD τ) (st0_12 tFst) fullShare ((dats m 0 c).before 12 tFst d)))
      hc1 hc2 hc3 ⟨0, by decide⟩ (coord_eq tFst) (fun k s => chk_of _ _ _ (hdst _)) rfl (ACC_step m c tFst (by decide)).symm) rfl
    (Idealize.SL.BI.BIClass.sep_mono (Phi_in c) (Idealize.SL.BI.BIClass.sep_mono .rfl (Idealize.SL.BI.BIClass.sep_mono (bef_0 m c tFst) (Idealize.SL.BI.BIClass.sep_mono (bef_1 m c tFst) (Idealize.SL.BI.BIClass.sep_mono (bef_2 m c tFst) (Idealize.SL.BI.BIClass.sep_mono (bef_3 m c tFst) (Idealize.SL.BI.BIClass.sep_mono (bef_4 m c tFst) (Idealize.SL.BI.BIClass.sep_mono (bef_5 m c tFst) (Idealize.SL.BI.BIClass.sep_mono (bef_6 m c tFst) (Idealize.SL.BI.BIClass.sep_mono (bef_7 m c tFst) (Idealize.SL.BI.BIClass.sep_mono (bef_8 m c tFst) (Idealize.SL.BI.BIClass.sep_mono (bef_9 m c tFst) (Idealize.SL.BI.BIClass.sep_mono (bef_10 m c tFst) (.rfl)))))))))))))) fun _ => .rfl

end Cert.KernelIdeal.Run

end
-- ==== Proof.SoundMidI.lean ====
/-
  The body at a grid point between the first and the last.
-/
module

public import proofs.«01_k».proof.Proof.DatI

@[expose] public section

set_option maxRecDepth 16384
set_option warn.classDefReducibility false

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

set_option maxHeartbeats 4000000 in
/-- A point between the first and the last. -/
theorem sound_mid (c : Dev nD) (t : Fin cfg0.N) (h0 : t.val ≠ 0) (h25 : t.val < 25) : PRE m c t ⊢ wp frame (wpE (defs₀ (F := F)) 𝒱₀ (c : Thread nD τ) none) Set.univ (bodyAt0 (F := F) t) (fun _ => POST m c t) := by
  have hc1 : ¬ k0_cond1 (grid0.coords t) = 1#1 := fun h => h0 ((cond1_iff t).mp h)
  have hc2 : k0_cond2 (grid0.coords t) = 1#1 := (cond2_iff t).mpr h25
  have hc3 : ¬ k0_cond3 (grid0.coords t) = 1#1 := fun h => by have := (cond3_iff t).mp h; omega
  obtain ⟨k, hk⟩ : ∃ k, t.val = k + 1 := ⟨t.val - 1, by omega⟩
  have ePhi : PhiS m c t.val (Nat.le_of_lt t.isLt) = PhiS m c (k + 1) (hk ▸ Nat.le_of_lt t.isLt) := by congr 1
  unfold PRE POST
  rw [outP_11_idle m c t h25, outP_12_idle m c t h25, Phi_succ m c t _ rfl, Phi_castSucc, ePhi]
  exact triple_restated (mid_pt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((dats m 0 c).owesAt () t.castSucc) iprop(∃ r, prngReg c r)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (AA m c) (ACC m c (k + 1)) (ACC m c (t.val + 1))
      iprop((∃ d, owns (c : Thread nD τ) (st0_11 t) fullShare ((dats m 0 c).before 11 t d)) ∗ (∃ d, owns (c : Thread nD τ) (st0_12 t) fullShare ((dats m 0 c).before 12 t d)))
      hc1 hc2 hc3 ⟨t.val, h25⟩ (coord_eq t) (by rw [← hk, ← ACC_step m c t h25])) rfl
    (Idealize.SL.BI.BIClass.sep_mono .rfl (Idealize.SL.BI.BIClass.sep_mono .rfl (Idealize.SL.BI.BIClass.sep_mono (bef_0 m c t) (Idealize.SL.BI.BIClass.sep_mono (bef_1 m c t) (Idealize.SL.BI.BIClass.sep_mono (bef_2 m c t) (Idealize.SL.BI.BIClass.sep_mono (bef_3 m c t) (Idealize.SL.BI.BIClass.sep_mono (bef_4 m c t) (Idealize.SL.BI.BIClass.sep_mono (bef_5 m c t) (Idealize.SL.BI.BIClass.sep_mono (bef_6 m c t) (Idealize.SL.BI.BIClass.sep_mono (bef_7 m c t) (Idealize.SL.BI.BIClass.sep_mono (bef_8 m c t) (Idealize.SL.BI.BIClass.sep_mono (bef_9 m c t) (Idealize.SL.BI.BIClass.sep_mono (bef_10 m c t) (.rfl)))))))))))))) fun _ => .rfl

end Cert.KernelIdeal.Run

end
-- ==== Proof.SoundLastI.lean ====
/-
  The body at the last grid point.
-/
module

public import proofs.«01_k».proof.Proof.DatI

@[expose] public section

set_option maxRecDepth 16384
set_option warn.classDefReducibility false

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- Contents a window is found at are some contents. -/
theorem some_of (c : Dev nD) (t : Fin cfg0.N) (w : Fin cfg0.W) : iprop(∃ d, owns (c : Thread nD τ) ((cfg0.win w).stage (cfg0.slots t w)) fullShare ((dats m 0 c).before w t d))
    ⊢ (iprop(∃ X, owns (c : Thread nD τ) ((cfg0.win w).stage (cfg0.slots t w)) fullShare X) : sProp 𝕄G) := by
  iintro ⟨%d, H⟩
  iexists _; iexact H

set_option maxHeartbeats 4000000 in
/-- The last point. -/
theorem sound_last (c : Dev nD) (t : Fin cfg0.N) (h25 : t.val = 25) : PRE m c t ⊢ wp frame (wpE (defs₀ (F := F)) 𝒱₀ (c : Thread nD τ) none) Set.univ (bodyAt0 (F := F) t) (fun _ => POST m c t) := by
  obtain rfl : t = tLst := Fin.ext h25
  have hc1 : ¬ k0_cond1 (grid0.coords tLst) = 1#1 := fun h => absurd ((cond1_iff tLst).mp h) (by decide)
  have hc2 : ¬ k0_cond2 (grid0.coords tLst) = 1#1 := fun h => absurd ((cond2_iff tLst).mp h) (by decide)
  have hc3 : k0_cond3 (grid0.coords tLst) = 1#1 := (cond3_iff tLst).mpr rfl
  have ePhi : PhiS m c tLst.val (Nat.le_of_lt tLst.isLt) = PhiS m c (24 + 1) (Nat.le_of_lt tLst.isLt) := rfl
  unfold PRE POST
  rw [outP_11_last m c tLst rfl, outP_12_last m c tLst rfl, Phi_succ m c tLst 25 rfl, Phi_castSucc, ePhi]
  have e26 : ACC m c (25 + 1) = ACC m c 25 := by rw [ACC, dif_neg (by decide)]
  rw [e26]
  exact triple_restated (last_pt (F := F) c (grid0.coords tLst) (win0_0.stage (cfg0.slots tLst 0)) (hstage0_0 ((cfg0.slots tLst 0).cast nbuf0_0)) (win0_1.stage (cfg0.slots tLst 1)) (hstage0_1 ((cfg0.slots tLst 1).cast nbuf0_1)) (win0_2.stage (cfg0.slots tLst 2)) (hstage0_2 ((cfg0.slots tLst 2).cast nbuf0_2)) (win0_3.stage (cfg0.slots tLst 3)) (hstage0_3 ((cfg0.slots tLst 3).cast nbuf0_3)) (win0_4.stage (cfg0.slots tLst 4)) (hstage0_4 ((cfg0.slots tLst 4).cast nbuf0_4)) (win0_5.stage (cfg0.slots tLst 5)) (hstage0_5 ((cfg0.slots tLst 5).cast nbuf0_5)) (win0_6.stage (cfg0.slots tLst 6)) (hstage0_6 ((cfg0.slots tLst 6).cast nbuf0_6)) (win0_7.stage (cfg0.slots tLst 7)) (hstage0_7 ((cfg0.slots tLst 7).cast nbuf0_7)) (win0_8.stage (cfg0.slots tLst 8)) (hstage0_8 ((cfg0.slots tLst 8).cast nbuf0_8)) (win0_9.stage (cfg0.slots tLst 9)) (hstage0_9 ((cfg0.slots tLst 9).cast nbuf0_9)) (win0_10.stage (cfg0.slots tLst 10)) (hstage0_10 ((cfg0.slots tLst 10).cast nbuf0_10)) (win0_11.stage (cfg0.slots tLst 11)) (hstage0_11 ((cfg0.slots tLst 11).cast nbuf0_11)) (win0_12.stage (cfg0.slots tLst 12)) (hstage0_12 ((cfg0.slots tLst 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((dats m 0 c).owesAt () tLst.castSucc) iprop(∃ r, prngReg c r)
      (iblk m c 0 tLst) (iblk m c 1 tLst) (iblk m c 2 tLst) (iblk m c 3 tLst) (iblk m c 4 tLst) (iblk m c 5 tLst) (iblk m c 6 tLst) (iblk m c 7 tLst) (iblk m c 8 tLst) (iblk m c 9 tLst) (iblk m c 10 tLst) (AA m c) (ACC m c 25) (OUT m c) (AGG m c)
      hc1 hc2 hc3 rfl rfl) rfl
    (Idealize.SL.BI.BIClass.sep_mono .rfl (Idealize.SL.BI.BIClass.sep_mono .rfl (Idealize.SL.BI.BIClass.sep_mono (bef_0 m c tLst) (Idealize.SL.BI.BIClass.sep_mono (bef_1 m c tLst) (Idealize.SL.BI.BIClass.sep_mono (bef_2 m c tLst) (Idealize.SL.BI.BIClass.sep_mono (bef_3 m c tLst) (Idealize.SL.BI.BIClass.sep_mono (bef_4 m c tLst) (Idealize.SL.BI.BIClass.sep_mono (bef_5 m c tLst) (Idealize.SL.BI.BIClass.sep_mono (bef_6 m c tLst) (Idealize.SL.BI.BIClass.sep_mono (bef_7 m c tLst) (Idealize.SL.BI.BIClass.sep_mono (bef_8 m c tLst) (Idealize.SL.BI.BIClass.sep_mono (bef_9 m c tLst) (Idealize.SL.BI.BIClass.sep_mono (bef_10 m c tLst) (Idealize.SL.BI.BIClass.sep_mono (some_of m c tLst 11) (some_of m c tLst 12))))))))))))))) fun _ => .rfl

end Cert.KernelIdeal.Run

end
-- ==== Proof.BodyI.lean ====
/-
  The body at every grid point.
-/
module

public import proofs.«01_k».proof.Proof.SoundFirstI
public import proofs.«01_k».proof.Proof.SoundMidI
public import proofs.«01_k».proof.Proof.SoundLastI

@[expose] public section

set_option maxRecDepth 16384
set_option warn.classDefReducibility false

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The pipeline's row of the body table is the body. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) (hdst : ∀ k, BitVec.toNat ((iblk m c 1 tFst : Vec F S3072 .i32) k) < 256) :
    BodyObligation (dats m 0 c) (defs₀ (F := F)) 𝒱₀ () Set.univ := fun t => by
  have hN : t.val < 26 := lt_of_lt_of_eq t.isLt N_0
  have h : PRE m c t ⊢ wp frame (wpE (defs₀ (F := F)) 𝒱₀ (c : Thread nD τ) none) Set.univ (bodyAt0 (F := F) t) (fun _ => POST m c t) := by
    by_cases h0 : t.val = 0
    · exact sound_first m c hdst t h0
    · by_cases h25 : t.val = 25
      · exact sound_last m c t h25
      · exact sound_mid m c t h0 (by omega)
  rw [bigSep_W0, bigSep_W0, defs₀_row]
  exact Idealize.ShloMosaic.triple_restated h rfl .rfl fun _ => .rfl

end Cert.KernelIdeal.Run

end
-- ==== Proof.RunI.lean ====
/-
  The run of the kernel: every final state's arrays, and the argument arrays unchanged.
-/
module

public import proofs.«01_k».proof.Proof.BodyI
public import Idealize.ShloMosaic.Lib.Claim

@[expose] public section

set_option maxRecDepth 16384

noncomputable section

namespace Cert.KernelIdeal.Run

open Cert.KernelIdeal Cert.KernelIdeal.Tables Cert.KernelIdeal.Loops Cert.KernelIdeal.Body Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

theorem A_eq (c : Dev nD) (w : Fin cfg0.W) : (dats m 0 c).A w = V m c (Pipeline.arrRef spec0 w) := rfl

/-- After the last grid point the scratch arrays' contents are forgotten. -/
theorem Phi_out (c : Dev nD) : (dats m 0 c).Φ (Fin.last cfg0.N) ⊢ Pipeline.ΦA spec0 c := by
  rw [show (dats m 0 c).Φ (Fin.last cfg0.N) = _ from Phi_succ m c tLst 25 rfl]
  unfold Pipeline.ΦA
  rw [scopedRest0_eq]
  unfold held
  simp only [View.set_whole]
  iintro ⟨⟨%f0, H0⟩, ⟨%f1, H1⟩, ⟨%f2, H2⟩, ⟨%f3, H3, -⟩, ⟨%f4, H4, -⟩, Hr⟩
  isplitr [Hr]
  · isplitl [H0]; · iexists f0; iexact H0
    isplitl [H1]; · iexists f1; iexact H1
    isplitl [H2]; · iexists f2; iexact H2
    isplitl [H3]; · iexists f3; iexact H3
    iexists f4; iexact H4
  iexact Hr

/-- Every target of an edge is below 256, as the kernel's window of targets holds them. -/
abbrev DstOk (c : Dev nD) : Prop := ∀ k, BitVec.toNat ((iblk m c 1 tFst : Vec F S3072 .i32) k) < 256

set_option backward.isDefEq.respectTransparency.types false in
set_option maxHeartbeats 800000 in
/-- The launch: every final state has every array of the pipeline at what the proof data say, and every semaphore at zero. -/
theorem run_main_quiescent (hdst : ∀ c, DstOk m c) :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c (hdst c)).loose) (hshare := fun c => (dats m 0 c).share_full fun _ => rfl)
    (howed := fun _ _ => rfl) (V := V m) (hmain := hmain m Variants.none) (hA := A_eq m)
    (hin := fun c => .rfl) (hout := Phi_out m)

/-- The argument arrays end unchanged and every semaphore at zero. -/
theorem frame (hdst : ∀ c, DstOk m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main_quiescent m ρ hdst)))
    ((θ_run defs _ _).mono (fun _ h => h.2) (run_main_quiescent m ρ hdst))

end Cert.KernelIdeal.Run

end
-- ==== Proof.Same.lean ====
/-
  The kernel's two printed modules are one program: `Kernel` and `KernelIdeal` agree, at every instance of the floats.
-/
module

public import proofs.«01_k».proof.Proof.Gen.Kernel
public import proofs.«01_k».proof.Proof.Gen.KernelIdeal

@[expose] public section

namespace Cert.Same

open Idealize.ShloMosaic

variable {F : FTy → Type} [FloatOps F]

set_option maxHeartbeats 4000000 in
/-- The bodies of the two programs' kernels agree. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l a
  match l, a with
  | ⟨0, _⟩, (t, s) => rfl

set_option maxHeartbeats 4000000 in
/-- The two programs' body tables agree. -/
theorem defs_eq : @Cert.Kernel.defs F _ Cert.Kernel.Gen.facts = @Cert.KernelIdeal.defs F _ Cert.KernelIdeal.Gen.facts := by
  unfold Cert.Kernel.defs
  rw [defs₀_eq]
  rfl

set_option maxHeartbeats 8000000 in
/-- The two programs' host code agrees. -/
theorem main_eq : @Cert.Kernel.main F _ Cert.Kernel.Gen.facts = @Cert.KernelIdeal.main F _ Cert.KernelIdeal.Gen.facts := by rfl

end Cert.Same
-- ==== Proof.KRead.lean ====
/-
  The kernel's windows, read in terms of the argument arrays, and the result arrays after the run.
-/
module

public import proofs.«01_k».proof.Proof.RunI
public import Idealize.ShloMosaic.Lib.Pipeline.ValueKit
public import Idealize.ShloMosaic.Lib.Pointwise

@[expose] public section

noncomputable section

namespace Cert.KernelIdeal.Run

open Cert.KernelIdeal Cert.KernelIdeal.Tables Cert.KernelIdeal.Gen
open Idealize.ShloMosaic Idealize.ShloMosaic.TcCoe

variable {F : FTy → Type} [FloatOps F]
variable (m : (ℓ : Loc nD τ sig) → Buf (Elt F) ℓ)

/-! ## The arrays the region finds -/

theorem V_main_v0 (c : Dev nD) : V m c main_v0 = bitcastToFloat .fp8e4m3 (m ((c : Thread nD τ).loc main_arg0)) := by entry_read; rfl
theorem V_main_v1 (c : Dev nD) : V m c main_v1 = bitcastToFloat .fp8e4m3 (m ((c : Thread nD τ).loc main_arg5)) := by entry_read; rfl
theorem V_main_v3 (c : Dev nD) : V m c main_v3 = shapeCast S2x24x128 (transpose S2x3072 [1, 0] (m ((c : Thread nD τ).loc main_arg4)) transposes_S3072x2_S2x3072_1_0) shapeCasts_S2x3072_S2x24x128 := by entry_read; rfl
theorem V_main_v4 (c : Dev nD) : V m c main_v4 = shapeCast S2x128 (m ((c : Thread nD τ).loc main_arg1)) shapeCasts_S256_S2x128 := by entry_read; rfl
theorem V_main_v5 (c : Dev nD) : V m c main_v5 = shapeCast S256x1 (m ((c : Thread nD τ).loc main_arg1)) shapeCasts_S256_S256x1 := by entry_read; rfl
theorem V_main_v6 (c : Dev nD) : V m c main_v6 = shapeCast S1x768 (m ((c : Thread nD τ).loc main_arg8)) shapeCasts_S768_S1x768 := by entry_read; rfl
theorem V_main_v7 (c : Dev nD) : V m c main_v7 = shapeCast S1x768 (m ((c : Thread nD τ).loc main_arg9)) shapeCasts_S768_S1x768 := by entry_read; rfl

/-! ## The windows' blocks -/

/-- Window 0 is the whole of its array. -/
theorem iblk0_eq (c : Dev nD) (t : Fin cfg0.N) : (iblk m c 0 t : Vec F S3072 .i32) = V m c main_arg2 := by
  have h0 : win0_0.index t 0 = 0 := (by decide +kernel : ∀ t : Fin cfg0.N, win0_0.index t 0 = 0) t
  funext j
  blk_ext [iblk, h0]

/-- Window 1 is the whole of its array. -/
theorem iblk1_eq (c : Dev nD) (t : Fin cfg0.N) : (iblk m c 1 t : Vec F S3072 .i32) = V m c main_arg3 := by
  have h0 : win0_1.index t 0 = 0 := (by decide +kernel : ∀ t : Fin cfg0.N, win0_1.index t 0 = 0) t
  funext j
  blk_ext [iblk, h0]

/-- Window 2 is the whole of its array. -/
theorem iblk2_eq (c : Dev nD) (t : Fin cfg0.N) : (iblk m c 2 t : Vec F S2x24x128 .f32) = V m c main_v3 := by
  have h0 : win0_2.index t 0 = 0 := (by decide +kernel : ∀ t : Fin cfg0.N, win0_2.index t 0 = 0) t
  have h1 : win0_2.index t 1 = 0 := (by decide +kernel : ∀ t : Fin cfg0.N, win0_2.index t 1 = 0) t
  have h2 : win0_2.index t 2 = 0 := (by decide +kernel : ∀ t : Fin cfg0.N, win0_2.index t 2 = 0) t
  funext j
  blk_ext [iblk, h0, h1, h2]

/-- Window 3 is the whole of its array. -/
theorem iblk3_eq (c : Dev nD) (t : Fin cfg0.N) : (iblk m c 3 t : Vec F S2x128 .f32) = V m c main_v4 := by
  have h0 : win0_3.index t 0 = 0 := (by decide +kernel : ∀ t : Fin cfg0.N, win0_3.index t 0 = 0) t
  have h1 : win0_3.index t 1 = 0 := (by decide +kernel : ∀ t : Fin cfg0.N, win0_3.index t 1 = 0) t
  funext j
  blk_ext [iblk, h0, h1]

/-- Window 4 is the whole of its array. -/
theorem iblk4_eq (c : Dev nD) (t : Fin cfg0.N) : (iblk m c 4 t : Vec F S256x1 .f32) = V m c main_v5 := by
  have h0 : win0_4.index t 0 = 0 := (by decide +kernel : ∀ t : Fin cfg0.N, win0_4.index t 0 = 0) t
  have h1 : win0_4.index t 1 = 0 := (by decide +kernel : ∀ t : Fin cfg0.N, win0_4.index t 1 = 0) t
  funext j
  blk_ext [iblk, h0, h1]

/-- Window 5 is the whole of its array. -/
theorem iblk5_eq (c : Dev nD) (t : Fin cfg0.N) : (iblk m c 5 t : Vec F S256x4096 .fp8e4m3) = V m c main_v0 := by
  have h0 : win0_5.index t 0 = 0 := (by decide +kernel : ∀ t : Fin cfg0.N, win0_5.index t 0 = 0) t
  have h1 : win0_5.index t 1 = 0 := (by decide +kernel : ∀ t : Fin cfg0.N, win0_5.index t 1 = 0) t
  funext j
  blk_ext [iblk, h0, h1]

/-- Window 7 is the whole of its array. -/
theorem iblk7_eq (c : Dev nD) (t : Fin cfg0.N) : (iblk m c 7 t : Vec F S25x768 .f32) = V m c main_arg6 := by
  have h0 : win0_7.index t 0 = 0 := (by decide +kernel : ∀ t : Fin cfg0.N, win0_7.index t 0 = 0) t
  have h1 : win0_7.index t 1 = 0 := (by decide +kernel : ∀ t : Fin cfg0.N, win0_7.index t 1 = 0) t
  funext j
  blk_ext [iblk, h0, h1]

/-- Window 8 is the whole of its array. -/
theorem iblk8_eq (c : Dev nD) (t : Fin cfg0.N) : (iblk m c 8 t : Vec F S4096x768 .fp8e4m3) = V m c main_arg7 := by
  have h0 : win0_8.index t 0 = 0 := (by decide +kernel : ∀ t : Fin cfg0.N, win0_8.index t 0 = 0) t
  have h1 : win0_8.index t 1 = 0 := (by decide +kernel : ∀ t : Fin cfg0.N, win0_8.index t 1 = 0) t
  funext j
  blk_ext [iblk, h0, h1]

/-- Window 9 is the whole of its array. -/
theorem iblk9_eq (c : Dev nD) (t : Fin cfg0.N) : (iblk m c 9 t : Vec F S1x768 .f32) = V m c main_v6 := by
  have h0 : win0_9.index t 0 = 0 := (by decide +kernel : ∀ t : Fin cfg0.N, win0_9.index t 0 = 0) t
  have h1 : win0_9.index t 1 = 0 := (by decide +kernel : ∀ t : Fin cfg0.N, win0_9.index t 1 = 0) t
  funext j
  blk_ext [iblk, h0, h1]

/-- Window 10 is the whole of its array. -/
theorem iblk10_eq (c : Dev nD) (t : Fin cfg0.N) : (iblk m c 10 t : Vec F S1x768 .f32) = V m c main_v7 := by
  have h0 : win0_10.index t 0 = 0 := (by decide +kernel : ∀ t : Fin cfg0.N, win0_10.index t 0 = 0) t
  have h1 : win0_10.index t 1 = 0 := (by decide +kernel : ∀ t : Fin cfg0.N, win0_10.index t 1 = 0) t
  funext j
  blk_ext [iblk, h0, h1]

/-- The window of matrices holds at a grid point below 25 that point's matrix. -/
theorem iblk6_eq (c : Dev nD) (t : Fin cfg0.N) (h : t.val < 25) (i : Fin 4096) (o : Fin 768) : (iblk m c 6 t : Vec F S1x4096x768 .fp8e4m3) (ix3 0 i o) = V m c main_v1 (ix3 ⟨t.val, h⟩ i o) := by
  have h0 : win0_6.index t 0 = t.val := (by decide +kernel : ∀ t : Fin cfg0.N, t.val < 25 → win0_6.index t 0 = t.val) t h
  have h1 : win0_6.index t 1 = 0 := (by decide +kernel : ∀ t : Fin cfg0.N, win0_6.index t 1 = 0) t
  have h2 : win0_6.index t 2 = 0 := (by decide +kernel : ∀ t : Fin cfg0.N, win0_6.index t 2 = 0) t
  blk_ext [iblk, h0, h1, h2]

/-! ## The result arrays after the run -/

/-- The first result's array after the run. -/
theorem arr11 (c : Dev nD) : (dats m 0 c).arrAt 11 cfg0.N = OUT m c := by
  refine (dats m 0 c).arrAt_eq_of_after_last 11 tLst (by decide +kernel) _ fun j => ?_
  blk_simp
  rfl

/-- The second result's array after the run. -/
theorem arr12 (c : Dev nD) : (dats m 0 c).arrAt 12 cfg0.N = AGG m c := by
  refine (dats m 0 c).arrAt_eq_of_after_last 12 tLst (by decide +kernel) _ fun j => ?_
  blk_simp
  rfl

end Cert.KernelIdeal.Run

end
-- ==== Proof.Weights.lean ====
/-
  The B-spline weights over the reals: the first knot an edge's coordinate touches, its fraction there, the three basis
  values, and the weight of a matrix at an edge.
-/
module

public import Idealize.ShloMosaic.Lib.Pointwise

@[expose] public section

noncomputable section

namespace Cert.Spline

open Idealize.ShloMosaic

/-- The f32 pattern of one half. -/
theorem ofBits_half : Ideal.ofBits .f32 0x3F000000#32 = ((1 / 2 : ℝ) : EReal) := by
  simp [Ideal.ofBits, Ideal.ieee, -EReal.coe_mul]; norm_num
/-- The f32 pattern of two. -/
theorem ofBits_two : Ideal.ofBits .f32 0x40000000#32 = ((2 : ℝ) : EReal) := by
  simp [Ideal.ofBits, Ideal.ieee, -EReal.coe_mul]; norm_num
/-- The f32 pattern of three. -/
theorem ofBits_three : Ideal.ofBits .f32 0x40400000#32 = ((3 : ℝ) : EReal) := by
  simp [Ideal.ofBits, Ideal.ieee, -EReal.coe_mul]; norm_num
/-- The f32 pattern of infinity. -/
theorem ofBits_inf : Ideal.ofBits .f32 0x7F800000#32 = ⊤ := by
  simp [Ideal.ofBits, Ideal.ieee]

/-- The first of the three knots a coordinate touches: the whole part of three times it, kept within 0 and 2. -/
def lo (p : ℝ) : ℤ := min 2 (max 0 ⌊p * 3⌋)

/-- The coordinate's fraction past that knot. -/
def fr (p : ℝ) : ℝ := p * 3 - (lo p : ℝ)

/-- The three basis values at a fraction. -/
def bas (f : ℝ) : Fin 3 → ℝ
  | 0 => 1 / 2 * ((1 - f) * (1 - f))
  | 1 => -f * f + f + 1 / 2
  | 2 => 1 / 2 * f * f

/-- The basis value of the knot `n`: zero unless it is one of the three touched. -/
def knot (n : ℤ) (p : ℝ) : ℝ :=
  if n - lo p = 0 then bas (fr p) 0 else if n - lo p = 1 then bas (fr p) 1 else if n - lo p = 2 then bas (fr p) 2 else 0

/-- The weight of matrix `kk`; matrix 25 counts the edges, the later ones are void. -/
def wgt (p0 p1 : ℝ) (kk : ℕ) : ℝ :=
  if kk = 25 then 1 else if 25 < kk then 0 else knot ((kk % 5 : ℕ) : ℤ) p0 * knot ((kk / 5 : ℕ) : ℤ) p1

theorem lo_nonneg (p : ℝ) : 0 ≤ lo p := by unfold lo; omega
theorem lo_le (p : ℝ) : lo p ≤ 2 := by unfold lo; omega

/-- A sum of knots' values against anything is the sum over the three touched. -/
theorem sum_knot (p : ℝ) (Y : ℤ → ℝ) : ∑ n : Fin 5, knot (n.val : ℤ) p * Y n.val = ∑ j : Fin 3, bas (fr p) j * Y (lo p + j.val) := by
  have h0 := lo_nonneg p
  have h2 := lo_le p
  unfold knot
  simp only [Fin.sum_univ_succ, Fin.sum_univ_zero]
  obtain h | h | h : lo p = 0 ∨ lo p = 1 ∨ lo p = 2 := by omega
  all_goals
    rw [h]
    norm_num
    try ring

/-- A weighted sum over the matrices is the sum over the nine an edge touches. -/
theorem sum_wgt (p0 p1 : ℝ) (Y : ℕ → ℝ) : ∑ k : Fin 25, wgt p0 p1 k.val * Y k.val
    = ∑ j1 : Fin 3, ∑ j0 : Fin 3, bas (fr p0) j0 * bas (fr p1) j1 * Y ((lo p0).toNat + j0.val + 5 * ((lo p1).toNat + j1.val)) := by
  have e : ∑ k : Fin 25, wgt p0 p1 k.val * Y k.val
      = ∑ b : Fin 5, ∑ a : Fin 5, knot (a.val : ℤ) p0 * knot (b.val : ℤ) p1 * Y (a.val + 5 * b.val) := by
    rw [← Fintype.sum_prod_type', ← (finProdFinEquiv (m := 5) (n := 5)).sum_comp]
    refine Finset.sum_congr rfl fun x _ => ?_
    obtain ⟨b, a⟩ := x
    have ha := a.isLt
    have hb := b.isLt
    have e1 : (finProdFinEquiv (m := 5) (n := 5) (b, a)).val = a.val + 5 * b.val := rfl
    rw [e1]
    unfold wgt
    rw [if_neg (by omega), if_neg (by omega), show (a.val + 5 * b.val) % 5 = a.val by omega, show (a.val + 5 * b.val) / 5 = b.val by omega]
  rw [e]
  have e2 : ∀ b : Fin 5, ∑ a : Fin 5, knot (a.val : ℤ) p0 * knot (b.val : ℤ) p1 * Y (a.val + 5 * b.val)
      = knot (b.val : ℤ) p1 * ∑ j0 : Fin 3, bas (fr p0) j0 * Y ((lo p0).toNat + j0.val + 5 * b.val) := by
    intro b
    have := sum_knot p0 (fun n => Y (n.toNat + 5 * b.val))
    simp only [Int.toNat_natCast] at this
    rw [show ∑ a : Fin 5, knot (a.val : ℤ) p0 * knot (b.val : ℤ) p1 * Y (a.val + 5 * b.val)
      = knot (b.val : ℤ) p1 * ∑ a : Fin 5, knot (a.val : ℤ) p0 * Y (a.val + 5 * b.val) by
        rw [Finset.mul_sum]; exact Finset.sum_congr rfl fun _ _ => by ring]
    rw [this]
    congr 1
    refine Finset.sum_congr rfl fun j _ => ?_
    rw [show (lo p0 + (j.val : ℤ)).toNat = (lo p0).toNat + j.val by have := lo_nonneg p0; omega]
  rw [Finset.sum_congr rfl fun b _ => e2 b]
  have e3 := sum_knot p1 (fun n => ∑ j0 : Fin 3, bas (fr p0) j0 * Y ((lo p0).toNat + j0.val + 5 * n.toNat))
  simp only [Int.toNat_natCast] at e3
  rw [e3]
  refine Finset.sum_congr rfl fun j _ => ?_
  rw [show (lo p1 + (j.val : ℤ)).toNat = (lo p1).toNat + j.val by have := lo_nonneg p1; omega, Finset.mul_sum]
  exact Finset.sum_congr rfl fun _ _ => by ring

/-- A sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Spline

end
-- ==== Proof.Pre.lean ====
/-
  What the two preconditions say, word by word and number by number.
-/
module

public import proofs.«01_k».proof.Proof.Weights
public import proofs.«01_k».proof.Proof.Gen.Pre_targets_in_range
public import proofs.«01_k».proof.Proof.Gen.Pre_finite_data
public import Idealize.ShloMosaic.Lib.ReduceAll
public import Idealize.ShloMosaic.Lib.Affine
public import Idealize.ShloMosaic.Lib.Pointwise

@[expose] public section

noncomputable section

namespace Cert.Spline

open Idealize.ShloMosaic

/-- A target the tests pass is below 256. -/
theorem word_lt (d : BitVec 32) (h0 : (0#32).toInt ≤ d.toInt) (h1 : d.toInt < (256#32).toInt) : d.toNat < 256 := by
  have e0 : (0#32).toInt = 0 := by decide
  have e1 : (256#32).toInt = 256 := by decide
  have h := BitVec.toInt_eq_toNat_cond d
  have := d.isLt
  split at h <;> omega

/-- A source in the half of a target below 256 is below 256 and in its half. -/
theorem word_half (s d : BitVec 32) (hd : d.toNat < 256) (h : s.sshiftRight 7 = d.sshiftRight 7) : s.toNat < 256 ∧ s.toNat / 128 = d.toNat / 128 := by
  have e := congrArg BitVec.toInt h
  rw [BitVec.toInt_sshiftRight, BitVec.toInt_sshiftRight, Int.shiftRight_eq_div_pow, Int.shiftRight_eq_div_pow] at e
  have hs := BitVec.toInt_eq_toNat_cond s
  have hd' := BitVec.toInt_eq_toNat_cond d
  have := s.isLt
  rw [if_pos (by omega)] at hd'
  split at hs <;> constructor <;> omega

/-- A byte that is no NaN is a real number. -/
theorem real_byte (b : BitVec 8) (h1 : b ≠ 127#8) (h2 : b ≠ 255#8) : ∃ r : ℝ, Ideal.ofBits .fp8e4m3 b = (r : EReal) := by
  have key : ∀ b : BitVec 8, (b.extractLsb' 3 4).toNat = 15 ∧ (b.extractLsb' 0 3).toNat = 7 → b = 127#8 ∨ b = 255#8 := by decide
  show ∃ r : ℝ, Ideal.e4m3fn b = (r : EReal)
  unfold Ideal.e4m3fn
  simp only
  rw [if_neg (fun h => (key b h).elim h1 h2)]
  split
  · exact ⟨_, rfl⟩
  · exact ⟨_, rfl⟩

/-- A number of magnitude below infinity is real. -/
theorem real_of_abs (x : EReal) (h : max x (-x) < ⊤) : ∃ r : ℝ, x = (r : EReal) := by
  induction x with
  | bot => simp at h
  | top => simp at h
  | coe r => exact ⟨r, rfl⟩

variable {F : FTy → Type} [FloatOps F]

/-- The precondition on the targets bounds each of them. -/
theorem pre_targets (a0 : IVec Cert.Pre_targets_in_range.S256x4096 8) (a1 : FVec F Cert.Pre_targets_in_range.S256 .f32) (a2 a3 : IVec Cert.Pre_targets_in_range.S3072 32)
    (a4 : FVec F Cert.Pre_targets_in_range.S3072x2 .f32) (a5 : IVec Cert.Pre_targets_in_range.S25x4096x768 8) (a6 : FVec F Cert.Pre_targets_in_range.S25x768 .f32)
    (a7 : FVec F Cert.Pre_targets_in_range.S4096x768 .fp8e4m3) (a8 a9 : FVec F Cert.Pre_targets_in_range.S768 .f32)
    (h : Cert.Pre_targets_in_range.fn (F := F) a0 a1 a2 a3 a4 a5 a6 a7 a8 a9 = fun _ => 1#1) (k : Cert.Pre_targets_in_range.S3072.Idx) : (a3 k).toNat < 256 := by
  have hz := congrFun h (fun a => a.elim0)
  unfold Cert.Pre_targets_in_range.fn at hz
  have hk := Host.reduce_andi_all _ _ _ _ _ hz k
  obtain ⟨h1, h2⟩ := IntOp.andi_eq_one.1 hk
  exact word_lt _ (IntOp.cmpi_sge.1 h1) (IntOp.cmpi_slt.1 h2)

/-- What the second precondition says of the arguments. -/
structure Finite (a0 : IVec Cert.Pre_finite_data.S256x4096 8) (a1 : FVec Ideal Cert.Pre_finite_data.S256 .f32) (a2 a3 : IVec Cert.Pre_finite_data.S3072 32)
    (a4 : FVec Ideal Cert.Pre_finite_data.S3072x2 .f32) (a5 : IVec Cert.Pre_finite_data.S25x4096x768 8) (a6 : FVec Ideal Cert.Pre_finite_data.S25x768 .f32) : Prop where
  dst : ∀ k, (a3 k).toNat < 256
  src : ∀ k, (a2 k).toNat < 256
  half : ∀ k, (a2 k).toNat / 128 = (a3 k).toNat / 128
  x : ∀ k, ∃ r : ℝ, Ideal.ofBits .fp8e4m3 (a0 k) = (r : EReal)
  w : ∀ k, ∃ r : ℝ, Ideal.ofBits .fp8e4m3 (a5 k) = (r : EReal)
  xs : ∀ k, ∃ r : ℝ, a1 k = (r : EReal)
  ws : ∀ k, ∃ r : ℝ, a6 k = (r : EReal)
  ps : ∀ k, ∃ r : ℝ, a4 k = (r : EReal)

theorem cmp_inf (x : Ideal .f32) (h : Ideal.cmp .olt (max x (-x)) (Ideal.ofBits .f32 0x7F800000#32) = 1#1) : ∃ r : ℝ, x = (r : EReal) := by
  rw [ofBits_inf] at h
  exact real_of_abs x ((Ideal.cmp_olt_eq_one _ _).1 h)

theorem pre_finite (a0 : IVec Cert.Pre_finite_data.S256x4096 8) (a1 : FVec Ideal Cert.Pre_finite_data.S256 .f32) (a2 a3 : IVec Cert.Pre_finite_data.S3072 32)
    (a4 : FVec Ideal Cert.Pre_finite_data.S3072x2 .f32) (a5 : IVec Cert.Pre_finite_data.S25x4096x768 8) (a6 : FVec Ideal Cert.Pre_finite_data.S25x768 .f32)
    (a7 : FVec Ideal Cert.Pre_finite_data.S4096x768 .fp8e4m3) (a8 a9 : FVec Ideal Cert.Pre_finite_data.S768 .f32)
    (h : Cert.Pre_finite_data.fn (F := Ideal) a0 a1 a2 a3 a4 a5 a6 a7 a8 a9 = fun _ => 1#1) : Finite a0 a1 a2 a3 a4 a5 a6 := by
  have hz := congrFun h (fun a => a.elim0)
  unfold Cert.Pre_finite_data.fn Cert.Pre_finite_data.fn_part1 Cert.Pre_finite_data.fn_part2 at hz
  obtain ⟨hz, hp⟩ := IntOp.andi_eq_one.1 hz
  obtain ⟨hz, hw⟩ := IntOp.andi_eq_one.1 hz
  obtain ⟨hz, hx⟩ := IntOp.andi_eq_one.1 hz
  obtain ⟨hz, h5⟩ := IntOp.andi_eq_one.1 hz
  obtain ⟨hz, h0⟩ := IntOp.andi_eq_one.1 hz
  obtain ⟨h3, h23⟩ := IntOp.andi_eq_one.1 hz
  have dst : ∀ k, (a3 k).toNat < 256 := fun k => by
    obtain ⟨h1, h2⟩ := IntOp.andi_eq_one.1 (Host.reduce_andi_all _ _ _ _ _ h3 k)
    exact word_lt _ (IntOp.cmpi_sge.1 h1) (IntOp.cmpi_slt.1 h2)
  have hh : ∀ k, (a2 k).toNat < 256 ∧ (a2 k).toNat / 128 = (a3 k).toNat / 128 := fun k =>
    word_half _ _ (dst k) (IntOp.cmpi_eq.1 (Host.reduce_andi_all _ _ _ _ _ h23 k))
  exact {
    dst := dst
    src := fun k => (hh k).1
    half := fun k => (hh k).2
    x := fun k => by
      obtain ⟨h1, h2⟩ := IntOp.andi_eq_one.1 (Host.reduce_andi_all _ _ _ _ _ h0 k)
      exact real_byte _ (IntOp.cmpi_ne.1 h1) (IntOp.cmpi_ne.1 h2)
    w := fun k => by
      obtain ⟨h1, h2⟩ := IntOp.andi_eq_one.1 (Host.reduce_andi_all _ _ _ _ _ h5 k)
      exact real_byte _ (IntOp.cmpi_ne.1 h1) (IntOp.cmpi_ne.1 h2)
    xs := fun k => cmp_inf _ (Host.reduce_andi_all _ _ _ _ _ hx k)
    ws := fun k => cmp_inf _ (Host.reduce_andi_all _ _ _ _ _ hw k)
    ps := fun k => cmp_inf _ (Host.reduce_andi_all _ _ _ _ _ hp k) }

end Cert.Spline

end
-- ==== Proof.KTab.lean ====
/-
  The kernel's table of weights and its lane masks, read at an index.
-/
module

public import proofs.«01_k».proof.Proof.Weights
public import proofs.«01_k».proof.Proof.TablesI

@[expose] public section

noncomputable section

namespace Cert.KernelIdeal.Tab

open Idealize.ShloMosaic Cert.KernelIdeal Cert.KernelIdeal.Gen Cert.KernelIdeal.Tables Cert.Spline

/-- The kernel's first knot is the real one. -/
theorem lo_read (p : ℝ) : min (((2 : ℝ)) : EReal) (max 0 (Ideal.liftRound Int.floor ((p : EReal) * ((3 : ℝ) : EReal)))) = ((lo p : ℝ) : EReal) := by
  rw [← EReal.coe_mul, show Ideal.liftRound Int.floor ((p * 3 : ℝ) : EReal) = (((⌊p * 3⌋ : ℤ) : ℝ) : EReal) from rfl,
    ← EReal.coe_zero, ← EReal.coe_strictMono.monotone.map_max, ← EReal.coe_strictMono.monotone.map_min]
  unfold lo
  push_cast
  rfl

/-- The kernel's basis value of a knot is the real one. -/
theorem knot_read (n : ℤ) (p : ℝ) :
    (if ((n : ℝ) : EReal) - ((lo p : ℝ) : EReal) = 0 then
        ((1 / 2 : ℝ) : EReal) * ((1 - ((p : EReal) * ((3 : ℝ) : EReal) - ((lo p : ℝ) : EReal))) * (1 - ((p : EReal) * ((3 : ℝ) : EReal) - ((lo p : ℝ) : EReal))))
      else if ((n : ℝ) : EReal) - ((lo p : ℝ) : EReal) = 1 then
        (0 - ((p : EReal) * ((3 : ℝ) : EReal) - ((lo p : ℝ) : EReal))) * ((p : EReal) * ((3 : ℝ) : EReal) - ((lo p : ℝ) : EReal))
          + ((p : EReal) * ((3 : ℝ) : EReal) - ((lo p : ℝ) : EReal)) + ((1 / 2 : ℝ) : EReal)
      else if ((n : ℝ) : EReal) - ((lo p : ℝ) : EReal) = ((2 : ℝ) : EReal) then
        ((1 / 2 : ℝ) : EReal) * ((p : EReal) * ((3 : ℝ) : EReal) - ((lo p : ℝ) : EReal)) * ((p : EReal) * ((3 : ℝ) : EReal) - ((lo p : ℝ) : EReal))
      else 0) = ((knot n p : ℝ) : EReal) := by
  have e : ((n : ℝ) : EReal) - ((lo p : ℝ) : EReal) = (((n - lo p : ℤ) : ℝ) : EReal) := by push_cast; rfl
  have c0 : (((n - lo p : ℤ) : ℝ) : EReal) = 0 ↔ n - lo p = 0 := by norm_cast
  have c1 : (((n - lo p : ℤ) : ℝ) : EReal) = 1 ↔ n - lo p = 1 := by
    rw [← EReal.coe_one, EReal.coe_eq_coe_iff]; exact_mod_cast Iff.rfl
  have c2 : (((n - lo p : ℤ) : ℝ) : EReal) = ((2 : ℝ) : EReal) ↔ n - lo p = 2 := by
    rw [EReal.coe_eq_coe_iff]; exact_mod_cast Iff.rfl
  have f : (p : EReal) * ((3 : ℝ) : EReal) - ((lo p : ℝ) : EReal) = ((fr p : ℝ) : EReal) := by unfold fr; push_cast; rfl
  simp only [f, e, c0, c1, c2]
  unfold knot
  split_ifs
  · simp only [bas]; push_cast; rfl
  · simp only [bas]; push_cast; rw [zero_sub]
  · simp only [bas]; push_cast; rfl
  · rfl

/-- An integer word as a real. -/
theorem sitofp_read {w : ℕ} (b : BitVec w) : FloatOps.sitofp (F := Ideal) .f32 b = ((b.toInt : ℝ) : EReal) := rfl

/-- The row of the first coordinate's knot, as the kernel computes it from a row's number. -/
theorem row_mod : ∀ a : Fin 32, (IntOp.subi (BitVec.ofNat 32 a.val) (IntOp.muli (5#32)
    (IntOp.shrsi ArithUnit.vector (IntOp.muli (BitVec.ofNat 32 a.val) 13#32) 6#32))).toInt = ((a.val % 5 : ℕ) : ℤ) := by decide
/-- The row of the second coordinate's knot. -/
theorem row_div : ∀ a : Fin 32, (IntOp.shrsi ArithUnit.vector (IntOp.muli (BitVec.ofNat 32 a.val) 13#32) 6#32).toInt = ((a.val / 5 : ℕ) : ℤ) := by decide

/-- The products of basis values before the last rows are overwritten. -/
abbrev core (v66 v69 : Vec Ideal S1x1x128 .f32) : FVec Ideal S32x128 .f32 :=
  k0_pay24 (k0_pay27 (F := Ideal)) (k0_pay12 v69) (k0_pay17 v66) (k0_pay18 v66) (k0_pay19 (F := Ideal)) (k0_pay20 (k0_pay26 (F := Ideal)) v66)
    (k0_pay21 (k0_pay26 (F := Ideal)) v66) (k0_pay22 (k0_pay26 (F := Ideal)) v66) (k0_pay23 v66)

theorem core_read (v66 v69 : Vec Ideal S1x1x128 .f32) (a : Fin 32) (r : Fin 128) (p0 p1 : ℝ)
    (h0 : v66 (ix3 0 0 r) = (p0 : EReal)) (h1 : v69 (ix3 0 0 r) = (p1 : EReal)) :
    core v66 v69 (ix2 a r) = ((knot ((a.val % 5 : ℕ) : ℤ) p0 * knot ((a.val / 5 : ℕ) : ℤ) p1 : ℝ) : EReal) := by
  pointwise [core, k0_pay12, k0_pay13, k0_pay14, k0_pay15, k0_pay16, k0_pay17, k0_pay18, k0_pay19, k0_pay20, k0_pay21, k0_pay22, k0_pay23, k0_pay24, k0_pay25, k0_pay26, k0_pay27]
  rw [h0, h1, ofBits_half, ofBits_two, ofBits_three, lo_read, lo_read]
  simp only [sitofp_read, row_mod, row_div]
  rw [knot_read, knot_read, EReal.coe_mul]

theorem row_eq : ∀ a : Fin 32, IntOp.cmpi .eq (BitVec.ofNat 32 a.val) 25#32 = BitVec.ofBool (decide (a.val = 25)) := by decide
theorem row_gt : ∀ a : Fin 32, IntOp.cmpi .sgt (BitVec.ofNat 32 a.val) 25#32 = BitVec.ofBool (decide (25 < a.val)) := by decide

/-- The table of weights at an edge of the row and a lane. -/
theorem tab_read (v66 v69 : Vec Ideal S1x1x128 .f32) (r l : Fin 128) (p0 p1 : ℝ)
    (h0 : v66 (ix3 0 0 r) = (p0 : EReal)) (h1 : v69 (ix3 0 0 r) = (p1 : EReal)) :
    tab v66 v69 (ix2 r l) = ((wgt p0 p1 (l.val % 32) : ℝ) : EReal) := by
  have hc : ∀ a : Fin 32, core v66 v69 (ix2 a r) = _ := fun a => core_read v66 v69 a r p0 p1 h0 h1
  show k0_pay28 (core v66 v69) (ix2 r l) = _
  generalize core v66 v69 = C at hc
  have blk : ∀ (a : Fin 32), Scalar.select (IntOp.cmpi CmpIPredicate.eq (BitVec.ofNat 32 a.val) 25#32) 1
      (Scalar.select (IntOp.cmpi CmpIPredicate.sgt (BitVec.ofNat 32 a.val) 25#32) 0 (C (ix2 a r))) = ((wgt p0 p1 a.val : ℝ) : EReal) := by
    intro a
    rw [row_eq, row_gt, hc a]
    unfold wgt
    by_cases h : a.val = 25
    · simp [h, Scalar.select]
    · by_cases h' : 25 < a.val
      · simp [h, h', Scalar.select]
      · simp [h, h', Scalar.select]
  have hl := l.isLt
  pointwise [k0_pay28]
  by_cases g1 : l.val < 32
  · rw [dif_pos g1, show l.val % 32 = l.val by omega]; exact blk ⟨l.val, g1⟩
  rw [dif_neg g1]
  by_cases g2 : l.val - 32 < 32
  · rw [dif_pos g2, show l.val % 32 = l.val - 32 by omega]; exact blk ⟨l.val - 32, g2⟩
  rw [dif_neg g2]
  by_cases g3 : l.val - 32 - 32 < 32
  · rw [dif_pos g3, show l.val % 32 = l.val - 32 - 32 by omega]; exact blk ⟨l.val - 32 - 32, g3⟩
  rw [dif_neg g3, show l.val % 32 = l.val - 32 - 32 - 32 by omega]
  exact blk ⟨l.val - 32 - 32 - 32, by omega⟩

set_option maxRecDepth 100000 in
/-- The lane's quarter, as the kernel computes it. -/
theorem lane_word : ∀ (r : Fin 4) (l : Fin 128), IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 l.val) 32#32) 0#32))
          (IntOp.subi (IntOp.divsi ArithUnit.vector (BitVec.ofNat 32 l.val) 32#32) 1#32)
          (IntOp.divsi ArithUnit.vector (BitVec.ofNat 32 l.val) 32#32))
        (BitVec.ofNat 32 r.val) = BitVec.ofBool (decide (l.val / 32 = r.val)) := by decide +kernel

/-- The masks at a row and a lane. -/
theorem mask_read (r : Fin 4) (l : Fin 128) : (Mv (F := Ideal)) (ix2 (r.castLE (by decide) : Fin 8) l) = if l.val / 32 = r.val then 1 else 0 := by
  pointwise [Mv, k0_pay1, k0_pay29]
  rw [show (Fin.castLE mask_read._proof_1 r).val = r.val from rfl, lane_word r l]
  by_cases h : l.val / 32 = r.val
  · simp [h, Scalar.select]
  · simp [h, Scalar.select]

end Cert.KernelIdeal.Tab

end
-- ==== Proof.KAcc.lean ====
/-
  The accumulator over the edges, read at an index: each entry of its re-tiled copy is a sum over the edges of one target and one
  source lane.
-/
module

public import proofs.«01_k».proof.Proof.KTab

@[expose] public section

noncomputable section

namespace Cert.KernelIdeal.Acc

open Idealize.ShloMosaic Cert.KernelIdeal Cert.KernelIdeal.Gen Cert.KernelIdeal.Tables Cert.Spline

/-- The re-tiled accumulator's entry is the accumulator's. -/
theorem ADat_read (A : Vec Ideal S8192x128 .f32) (kk : Fin 32) (d : Fin 256) (s : Fin 128) :
    ADat A kk d s = A (ix2 ⟨d.val / 4 * 128 + s.val, by have := d.isLt; have := s.isLt; omega⟩ ⟨32 * (d.val % 4) + kk.val, by have := kk.isLt; omega⟩) := by
  unfold ADat
  have key : ∀ (q : Fin 4) (v : Vec Ideal S128x128 .f32), tp q v (ix2 kk s) = v (ix2 s ⟨32 * q.val + kk.val, by have := kk.isLt; have := q.isLt; omega⟩) := by
    intro q v
    match q with
    | ⟨0, _⟩ => unfold tp; pointwise [k0_pay5, k0_pay4]
    | ⟨1, _⟩ => unfold tp; pointwise [k0_pay6, k0_pay4]
    | ⟨2, _⟩ => unfold tp; pointwise [k0_pay7, k0_pay4]
    | ⟨3, _⟩ => unfold tp; pointwise [k0_pay8, k0_pay4]
  rw [key]
  unfold rows128
  have er : ∀ h, (⟨128 * (d.val / 4) + s.val, h⟩ : Fin 8192) = ⟨d.val / 4 * 128 + s.val, by have := d.isLt; have := s.isLt; omega⟩ :=
    fun h => Fin.ext (by show 128 * (d.val / 4) + s.val = d.val / 4 * 128 + s.val; omega)
  exact congrArg (fun i : Fin 8192 => A (ix2 i _)) (er (by have := d.isLt; have := s.isLt; omega))

/-- One edge more in a sum over the first edges. -/
theorem sum_first (g : Fin 3072 → ℝ) (k : ℕ) (h : k < 3072) : (∑ e : Fin 3072, if e.val < k + 1 then g e else 0)
    = (∑ e : Fin 3072, if e.val < k then g e else 0) + g ⟨k, h⟩ := by
  have e1 : ∀ e : Fin 3072, (if e.val < k + 1 then g e else 0) = (if e.val < k then g e else 0) + (if e = ⟨k, h⟩ then g e else 0) := by
    intro e
    by_cases h1 : e.val < k
    · have : e ≠ ⟨k, h⟩ := fun he => by rw [he] at h1; exact absurd h1 (Nat.lt_irrefl _)
      rw [if_pos h1, if_pos (by omega), if_neg this, add_zero]
    · by_cases h2 : e.val = k
      · have : e = ⟨k, h⟩ := Fin.ext h2
        rw [if_neg h1, if_pos (by omega), if_pos this, zero_add]
      · have : e ≠ ⟨k, h⟩ := fun he => h2 (by rw [he])
        rw [if_neg h1, if_neg (by omega), if_neg this, add_zero]
  rw [Finset.sum_congr rfl fun e _ => e1 e, Finset.sum_add_distrib, Finset.sum_ite_eq' Finset.univ _ g, if_pos (Finset.mem_univ _)]

/-- The accumulator after `k` edges: a sum over them. -/
theorem A4_read (src dst : Vec Ideal S3072 .i32) (B : Vec Ideal S3072x128 .f32) (M : Vec Ideal S8x128 .f32) (b : Fin 3072 → Fin 128 → ℝ)
    (sN dN : Fin 3072 → ℕ) (hB : ∀ e l, B (ix2 e l) = ((b e l : ℝ) : EReal))
    (hM : ∀ (r : Fin 8) (l : Fin 128), r.val < 4 → M (ix2 r l) = if l.val / 32 = r.val then 1 else 0)
    (hd : ∀ e, dN e < 256) (h6 : ∀ e, k0_off6 (dst (ix1 e)) 0 = dN e % 4)
    (h7 : ∀ e, k0_off7 (src (ix1 e)) (dst (ix1 e)) 0 = dN e / 4 * 128 + sN e % 128) (k : ℕ) (hk : k ≤ 3072) (r : Fin 8192) (l : Fin 128) :
    A4 src dst B M k (ix2 r l) = ((∑ e : Fin 3072, if e.val < k then
      (if dN e / 4 * 128 + sN e % 128 = r.val ∧ l.val / 32 = dN e % 4 then b e l else 0) else 0 : ℝ) : EReal) := by
  induction k with
  | zero =>
    simp only [A4, Nat.not_lt_zero, if_false, Finset.sum_const_zero, EReal.coe_zero]
    pointwise [k0_pay2]
  | succ k ih =>
    have hk' : k < 3072 := hk
    have ih := ih hk'.le
    rw [sum_first _ k hk', A4, dif_pos hk']
    have hdk := hd ⟨k, hk'⟩
    unfold a4Step
    simp only [h6 ⟨k, hk'⟩, h7 ⟨k, hk'⟩]
    rw [dif_pos ⟨by omega, by omega⟩]
    by_cases hr : r.val = dN ⟨k, hk'⟩ / 4 * 128 + sN ⟨k, hk'⟩ % 128
    · rw [if_pos (show ((ix2 r l : S8192x128.Idx) 0).val = _ from hr)]
      have e1 : k0_pay3 (rowOf B ⟨k, hk'⟩) (rowOf M ⟨dN ⟨k, hk'⟩ % 4, by omega⟩) (rowOf (A4 src dst B M k) ⟨dN ⟨k, hk'⟩ / 4 * 128 + sN ⟨k, hk'⟩ % 128, by omega⟩) (ix2 (0 : Fin 1) l)
          = A4 src dst B M k (ix2 r l) + B (ix2 ⟨k, hk'⟩ l) * M (ix2 ⟨dN ⟨k, hk'⟩ % 4, by omega⟩ l) := by
        have er : (⟨dN ⟨k, hk'⟩ / 4 * 128 + sN ⟨k, hk'⟩ % 128, by omega⟩ : Fin 8192) = r := Fin.ext hr.symm
        rw [er]
        pointwise [k0_pay3, rowOf]
      refine e1.trans ?_
      rw [ih, hB, hM _ _ (by show dN _ % 4 < 4; omega), EReal.coe_add]
      congr 1
      by_cases hl : l.val / 32 = dN ⟨k, hk'⟩ % 4
      · rw [if_pos hl, if_pos ⟨hr.symm, hl⟩, mul_one]
      · rw [if_neg hl, if_neg (fun h => hl h.2), mul_zero, EReal.coe_zero]
    · rw [if_neg (show ¬ ((ix2 r l : S8192x128.Idx) 0).val = _ from hr), ih, if_neg (fun h => hr h.1.symm), add_zero]

/-- The re-tiled accumulator over all the edges: for a matrix, a target and a source lane, the sum of the weights of the edges of
    that target and lane. -/
theorem AD_read (src dst : Vec Ideal S3072 .i32) (B : Vec Ideal S3072x128 .f32) (M : Vec Ideal S8x128 .f32) (w : Fin 3072 → ℕ → ℝ)
    (sN dN : Fin 3072 → ℕ) (hB : ∀ e l, B (ix2 e l) = ((w e (l.val % 32) : ℝ) : EReal))
    (hM : ∀ (r : Fin 8) (l : Fin 128), r.val < 4 → M (ix2 r l) = if l.val / 32 = r.val then 1 else 0)
    (hd : ∀ e, dN e < 256) (h6 : ∀ e, k0_off6 (dst (ix1 e)) 0 = dN e % 4)
    (h7 : ∀ e, k0_off7 (src (ix1 e)) (dst (ix1 e)) 0 = dN e / 4 * 128 + sN e % 128) (kk : Fin 32) (d : Fin 256) (s : Fin 128) :
    ADat (A4 src dst B M 3072) kk d s = ((∑ e : Fin 3072, if dN e = d.val ∧ sN e % 128 = s.val then w e kk.val else 0 : ℝ) : EReal) := by
  rw [ADat_read, A4_read src dst B M (fun e l => w e (l.val % 32)) sN dN hB hM hd h6 h7 3072 le_rfl]
  congr 1
  refine Finset.sum_congr rfl fun e _ => ?_
  rw [if_pos e.isLt]
  have := kk.isLt
  have := s.isLt
  have e2 : (32 * (d.val % 4) + kk.val) % 32 = kk.val := by omega
  simp only [e2]
  refine if_congr ?_ rfl rfl
  constructor
  · rintro ⟨h1, h2⟩
    constructor <;> omega
  · rintro ⟨h1, h2⟩
    rw [h1, h2]
    exact ⟨rfl, by omega⟩

end Cert.KernelIdeal.Acc

end
-- ==== Proof.KStep.lean ====
/-
  One grid point's update of the running sum, and the two results, read at an index. The product of the two operands is summed from
  six products of their parts; where the entries are real numbers, the first part of an operand is the operand and the others are zero.
-/
module

public import proofs.«01_k».proof.Proof.KTab

@[expose] public section

noncomputable section

namespace Cert.KernelIdeal.Step

open Idealize.ShloMosaic Cert.KernelIdeal Cert.KernelIdeal.Gen Cert.KernelIdeal.Tables Cert.Spline

/-- A sum of six products of parts of real numbers is the sum of the products of the numbers. -/
theorem six (a t : Fin 128 → ℝ) :
    (∑ x, (a x : EReal) * (t x : EReal) + ∑ x, (a x : EReal) * ((t x : EReal) - t x)
      + (∑ x, ((a x : EReal) - a x) * (t x : EReal) + ∑ x, ((a x : EReal) - a x) * ((t x : EReal) - t x)
        + (∑ x, (a x : EReal) * ((t x : EReal) - t x - ((t x : EReal) - t x))
          + ∑ x, ((a x : EReal) - a x - ((a x : EReal) - a x)) * (t x : EReal)))) = ((∑ x, a x * t x : ℝ) : EReal) := by
  have z : ∀ r : ℝ, (r : EReal) - r = 0 := fun r => by rw [← EReal.coe_sub, sub_self, EReal.coe_zero]
  have c : ((∑ x, a x * t x : ℝ) : EReal) = ∑ x, (a x : EReal) * (t x : EReal) := by
    rw [coe_sum]
    exact Finset.sum_congr rfl fun x _ => EReal.coe_mul _ _
  have z0 : (0 : EReal) - 0 = 0 := by exact z 0
  simp only [z, z0, mul_zero, zero_mul, Finset.sum_const_zero, add_zero, c]

/-- The lower half's update. -/
theorem lower_read (t : Vec Ideal S256x768 .f32) (b : Vec Ideal S128x128 .f32) (xs : Vec Ideal S1x128 .f32) (acc : Vec Ideal S128x768 .f32)
    (d : Fin 128) (o : Fin 768) (T : Fin 256 → ℝ) (xr a : Fin 128 → ℝ) (hT : ∀ s, t (ix2 s o) = ((T s : ℝ) : EReal))
    (hx : ∀ s, xs (ix2 0 s) = ((xr s : ℝ) : EReal)) (hb : ∀ s, b (ix2 d s) = ((a s : ℝ) : EReal)) :
    k0_pay43 t b xs acc (ix2 d o) = acc (ix2 d o) + ((∑ s : Fin 128, a s * xr s * T ⟨128 + s.val, by have := s.isLt; omega⟩ : ℝ) : EReal) := by
  rw [← six (fun s => a s * xr s) (fun s => T ⟨128 + s.val, by have := s.isLt; omega⟩)]
  pointwise [k0_pay43]
  simp only [hT, hx, hb, EReal.coe_mul]

/-- The upper half's update. -/
theorem upper_read (x : Vec Ideal S256x4096 .fp8e4m3) (w : Vec Ideal S1x4096x768 .fp8e4m3) (ws : Vec Ideal S1x768 .f32) (b : Vec Ideal S128x128 .f32)
    (xs : Vec Ideal S1x128 .f32) (acc : Vec Ideal S128x768 .f32)
    (d : Fin 128) (o : Fin 768) (T : Fin 256 → ℝ) (xr a : Fin 128 → ℝ) (hT : ∀ s, k0_pay30 x w ws (ix2 s o) = ((T s : ℝ) : EReal))
    (hx : ∀ s, xs (ix2 0 s) = ((xr s : ℝ) : EReal)) (hb : ∀ s, b (ix2 d s) = ((a s : ℝ) : EReal)) :
    k0_pay42 acc (k0_pay40 x w ws b xs) (k0_pay41 x w ws b xs) (ix2 d o)
      = acc (ix2 d o) + ((∑ s : Fin 128, a s * xr s * T ⟨s.val, by have := s.isLt; omega⟩ : ℝ) : EReal) := by
  rw [← six (fun s => a s * xr s) (fun s => T ⟨s.val, by have := s.isLt; omega⟩)]
  pointwise [k0_pay42, k0_pay41, k0_pay40, k0_pay39, k0_pay38, k0_pay37, k0_pay36, k0_pay35, k0_pay34, k0_pay33, k0_pay32, k0_pay31]
  simp only [hT, hx, hb, EReal.coe_mul]

/-- The source of lane `s` in the half that row `d` lies in. -/
def mate (d : Fin 256) (s : Fin 128) : Fin 256 := ⟨128 * (d.val / 128) + s.val, by have := d.isLt; have := s.isLt; omega⟩

/-- One grid point's update, in either half. -/
theorem accStep_read (x : Vec Ideal S256x4096 .fp8e4m3) (w : Vec Ideal S1x4096x768 .fp8e4m3) (ws : Vec Ideal S1x768 .f32)
    (xs : Vec Ideal S2x128 .f32) (A : Vec Ideal S8192x128 .f32) (k : Fin 32) (acc : Vec Ideal S256x768 .f32) (d : Fin 256) (o : Fin 768)
    (T xr : Fin 256 → ℝ) (a : Fin 128 → ℝ) (hT : ∀ s, k0_pay30 x w ws (ix2 s o) = ((T s : ℝ) : EReal))
    (hx : ∀ g s, xs (ix2 g s) = ((xr ⟨128 * g.val + s.val, by have := g.isLt; have := s.isLt; omega⟩ : ℝ) : EReal))
    (hb : ∀ s, ADat A k d s = ((a s : ℝ) : EReal)) :
    accStep x w ws (xsRow xs 0) (xsRow xs 1) (adBlk A k 0) (adBlk A k 1) acc (ix2 d o)
      = acc (ix2 d o) + ((∑ s : Fin 128, a s * xr (mate d s) * T (mate d s) : ℝ) : EReal) := by
  have hd := d.isLt
  unfold accStep
  by_cases h : d.val < 128
  · rw [dif_pos (show ((ix2 d o : S256x768.Idx) 0).val < 128 from h)]
    have e1 : ∀ s : Fin 128, mate d s = ⟨s.val, by have := s.isLt; omega⟩ := fun s => Fin.ext (by show 128 * (d.val / 128) + s.val = s.val; omega)
    simp only [e1]
    have ed : ∀ h', (⟨128 * (0 : Fin 2).val + d.val, h'⟩ : Fin 256) = d := fun h' => Fin.ext (by show 128 * 0 + d.val = d.val; omega)
    have key := upper_read x w ws (adBlk A k 0) (xsRow xs 0) (half acc 0) ⟨d.val, h⟩ o T (fun s => xr ⟨s.val, by have := s.isLt; omega⟩) a hT
      (fun s => by
        refine (hx 0 s).trans ?_
        exact congrArg (fun i : Fin 256 => ((xr i : ℝ) : EReal)) (Fin.ext (by show 128 * 0 + s.val = s.val; omega)))
      (fun s => by
        exact (congrArg (fun i : Fin 256 => ADat A k i s) (ed _)).trans (hb s))
    refine key.trans ?_
    congr 1
    exact congrArg (fun i : Fin 256 => acc (ix2 i o)) (ed _)
  · rw [dif_neg (show ¬ ((ix2 d o : S256x768.Idx) 0).val < 128 from h)]
    have e1 : ∀ s : Fin 128, mate d s = ⟨128 + s.val, by have := s.isLt; omega⟩ := fun s => Fin.ext (by show 128 * (d.val / 128) + s.val = 128 + s.val; omega)
    simp only [e1]
    have ed : ∀ h', (⟨128 * (1 : Fin 2).val + (d.val - 128), h'⟩ : Fin 256) = d := fun h' => Fin.ext (by show 128 * 1 + (d.val - 128) = d.val; omega)
    have key := lower_read (k0_pay30 x w ws) (adBlk A k 1) (xsRow xs 1) (half acc 1) ⟨d.val - 128, by omega⟩ o T (fun s => xr ⟨128 + s.val, by have := s.isLt; omega⟩) a hT
      (fun s => by
        refine (hx 1 s).trans ?_
        exact congrArg (fun i : Fin 256 => ((xr i : ℝ) : EReal)) (Fin.ext (by show 128 * 1 + s.val = 128 + s.val; omega)))
      (fun s => by
        exact (congrArg (fun i : Fin 256 => ADat A k i s) (ed _)).trans (hb s))
    refine key.trans ?_
    congr 1
    exact congrArg (fun i : Fin 256 => acc (ix2 i o)) (ed _)

/-- The scaled products of the rows with a matrix. -/
theorem pay30_read (x : Vec Ideal S256x4096 .fp8e4m3) (w : Vec Ideal S1x4096x768 .fp8e4m3) (ws : Vec Ideal S1x768 .f32) (s : Fin 256) (o : Fin 768) :
    k0_pay30 x w ws (ix2 s o) = (∑ i, x (ix2 s i) * w (ix3 0 i o)) * ws (ix2 0 o) := by
  pointwise [k0_pay30]

/-- The first result's entry. -/
theorem pay11_read (v9 : Vec Ideal S256x4096 .fp8e4m3) (v11 : Vec Ideal S4096x768 .fp8e4m3) (v14 : Vec Ideal S256x1 .f32) (v18 : Vec Ideal S1x768 .f32)
    (v22 : Vec Ideal S256x128 .f32) (v25 : Vec Ideal S256x768 .f32) (v32 : Vec Ideal S1x768 .f32) (s : Fin 256) (o : Fin 768) :
    k0_pay11 v9 v11 v14 v18 v22 v25 v32 (ix2 s o)
      = k0_pay10 v22 v25 (ix2 s o) + (∑ i, v9 (ix2 s i) * v11 (ix2 i o)) * v14 (ix2 s 0) * v18 (ix2 0 o) + v32 (ix2 0 o) := by
  pointwise [k0_pay11]

/-- The second result's entry. -/
theorem pay10_read (v22 : Vec Ideal S256x128 .f32) (v25 : Vec Ideal S256x768 .f32) (s : Fin 256) (o : Fin 768) :
    k0_pay10 v22 v25 (ix2 s o) = Ideal.div (v25 (ix2 s o)) (max (∑ x, v22 (ix2 s x)) 1) := by
  pointwise [k0_pay10]

/-- The running sum starts at zero. -/
theorem pay9_read (s : Fin 256) (o : Fin 768) : k0_pay9 (F := Ideal) (ix2 s o) = 0 := by
  pointwise [k0_pay9]

end Cert.KernelIdeal.Step

end
-- ==== Proof.Core.lean ====
/-
  The identity behind the kernel: a sum over matrices and source lanes of the edges' weights, against the scaled products of the sources'
  rows with the matrices, is the sum over the edges of the nine weighted products each edge takes.
-/
module

public import proofs.«01_k».proof.Proof.KStep

@[expose] public section

noncomputable section

namespace Cert.Spline

open Cert.KernelIdeal.Step (mate)

variable (sN dN : Fin 3072 → ℕ) (P : Fin 3072 → Fin 2 → ℝ)

/-- The weights of the edges of one target and one source lane, summed. -/
def laneSum (k : ℕ) (d : Fin 256) (s : Fin 128) : ℝ :=
  ∑ e : Fin 3072, if dN e = d.val ∧ sN e % 128 = s.val then wgt (P e 0) (P e 1) k else 0

/-- The source's row, for a source and a target in the same half. -/
theorem mate_eq (hs : ∀ e, sN e < 256) (hh : ∀ e, sN e / 128 = dN e / 128) (e : Fin 3072) (d : Fin 256) (h : dN e = d.val) (s : Fin 128)
    (h2 : sN e % 128 = s.val) : mate d s = ⟨sN e, hs e⟩ := by
  have := hh e
  exact Fin.ext (by show 128 * (d.val / 128) + s.val = sN e; omega)

/-- The lanes' sums against a row's value are the edges' values. -/
theorem lane_sum (hs : ∀ e, sN e < 256) (hh : ∀ e, sN e / 128 = dN e / 128) (k : ℕ) (d : Fin 256) (Y : Fin 256 → ℝ) :
    ∑ s : Fin 128, laneSum sN dN P k d s * Y (mate d s)
      = ∑ e : Fin 3072, if dN e = d.val then wgt (P e 0) (P e 1) k * Y ⟨sN e, hs e⟩ else 0 := by
  unfold laneSum
  simp only [Finset.sum_mul]
  rw [Finset.sum_comm]
  refine Finset.sum_congr rfl fun e _ => ?_
  by_cases h : dN e = d.val
  · rw [if_pos h]
    have e1 : ∀ s : Fin 128, (if dN e = d.val ∧ sN e % 128 = s.val then wgt (P e 0) (P e 1) k else 0) * Y (mate d s)
        = if s = (⟨sN e % 128, Nat.mod_lt _ (by decide)⟩ : Fin 128) then wgt (P e 0) (P e 1) k * Y ⟨sN e, hs e⟩ else 0 := by
      intro s
      by_cases h2 : sN e % 128 = s.val
      · rw [if_pos ⟨h, h2⟩, if_pos (Fin.ext h2.symm), mate_eq sN dN hs hh e d h s h2]
      · rw [if_neg (fun h' => h2 h'.2), if_neg (fun h' => h2 (by rw [h'])), zero_mul]
    rw [Finset.sum_congr rfl fun s _ => e1 s, Finset.sum_ite_eq' Finset.univ, if_pos (Finset.mem_univ _)]
  · rw [if_neg h]
    exact Finset.sum_eq_zero fun s _ => by rw [if_neg (fun h' => h h'.1), zero_mul]

/-- The number of the matrix an edge takes at the offsets `j0` and `j1`. -/
def slot (p0 p1 : ℝ) (j1 j0 : Fin 3) : ℕ := (lo p0).toNat + j0.val + 5 * ((lo p1).toNat + j1.val)

theorem slot_lt (p0 p1 : ℝ) (j1 j0 : Fin 3) : slot p0 p1 j1 j0 < 25 := by
  unfold slot
  have := lo_nonneg p0; have := lo_le p0; have := lo_nonneg p1; have := lo_le p1; have := j0.isLt; have := j1.isLt
  omega

/-- The sum over the matrices and the lanes is the sum over the edges of their nine weighted products. -/
theorem core (hs : ∀ e, sN e < 256) (hh : ∀ e, sN e / 128 = dN e / 128) (d : Fin 256) (xs : Fin 256 → ℝ) (D : Fin 25 → Fin 256 → ℝ) (ws : Fin 25 → ℝ) :
    ∑ k : Fin 25, ∑ s : Fin 128, laneSum sN dN P k.val d s * xs (mate d s) * (D k (mate d s) * ws k)
      = ∑ e : Fin 3072, if dN e = d.val then ∑ j1 : Fin 3, ∑ j0 : Fin 3, bas (fr (P e 0)) j0 * bas (fr (P e 1)) j1
          * (D ⟨slot (P e 0) (P e 1) j1 j0, slot_lt _ _ _ _⟩ ⟨sN e, hs e⟩ * xs ⟨sN e, hs e⟩ * ws ⟨slot (P e 0) (P e 1) j1 j0, slot_lt _ _ _ _⟩) else 0 := by
  have e1 : ∀ k : Fin 25, ∑ s : Fin 128, laneSum sN dN P k.val d s * xs (mate d s) * (D k (mate d s) * ws k)
      = ∑ e : Fin 3072, if dN e = d.val then wgt (P e 0) (P e 1) k.val * (D k ⟨sN e, hs e⟩ * xs ⟨sN e, hs e⟩ * ws k) else 0 := by
    intro k
    rw [← lane_sum sN dN P hs hh k.val d (fun s => D k s * xs s * ws k)]
    exact Finset.sum_congr rfl fun s _ => by ring
  rw [Finset.sum_congr rfl fun k _ => e1 k, Finset.sum_comm]
  refine Finset.sum_congr rfl fun e _ => ?_
  by_cases h : dN e = d.val
  · simp only [if_pos h]
    have key := sum_wgt (P e 0) (P e 1) (fun n => if hn : n < 25 then D ⟨n, hn⟩ ⟨sN e, hs e⟩ * xs ⟨sN e, hs e⟩ * ws ⟨n, hn⟩ else 0)
    have e2 : ∀ k : Fin 25, (if hn : k.val < 25 then D ⟨k.val, hn⟩ ⟨sN e, hs e⟩ * xs ⟨sN e, hs e⟩ * ws ⟨k.val, hn⟩ else 0)
        = D k ⟨sN e, hs e⟩ * xs ⟨sN e, hs e⟩ * ws k := fun k => by rw [dif_pos k.isLt]
    rw [Finset.sum_congr rfl fun k _ => by rw [e2 k]] at key
    rw [key]
    refine Finset.sum_congr rfl fun j1 _ => Finset.sum_congr rfl fun j0 _ => ?_
    refine congrArg _ ((dif_pos ?_).trans rfl)
    exact slot_lt (P e 0) (P e 1) j1 j0
  · simp only [if_neg h, Finset.sum_const_zero]

/-- The number of edges of a target. -/
def deg (d : Fin 256) : ℝ := ∑ e : Fin 3072, if dN e = d.val then 1 else 0

/-- The lanes of matrix 25 count the edges. -/
theorem lane_deg (d : Fin 256) : ∑ s : Fin 128, laneSum sN dN P 25 d s = deg dN d := by
  unfold laneSum deg
  rw [Finset.sum_comm]
  refine Finset.sum_congr rfl fun e _ => ?_
  have w25 : wgt (P e 0) (P e 1) 25 = 1 := by unfold wgt; rw [if_pos rfl]
  by_cases h : dN e = d.val
  · rw [if_pos h]
    have e1 : ∀ s : Fin 128, (if dN e = d.val ∧ sN e % 128 = s.val then wgt (P e 0) (P e 1) 25 else 0)
        = if s = (⟨sN e % 128, Nat.mod_lt _ (by decide)⟩ : Fin 128) then 1 else 0 := by
      intro s
      rw [w25]
      refine if_congr ⟨fun h' => Fin.ext h'.2.symm, fun h' => ⟨h, by rw [h']⟩⟩ rfl rfl
    rw [Finset.sum_congr rfl fun s _ => e1 s, Finset.sum_ite_eq' Finset.univ, if_pos (Finset.mem_univ _)]
  · rw [if_neg h]
    exact Finset.sum_eq_zero fun s _ => by rw [if_neg (fun h' => h h'.1)]

end Cert.Spline

end
-- ==== Proof.KVal.lean ====
/-
  The kernel's running sum, its counts of edges and its second result, as sums over the reals.
-/
module

public import proofs.«01_k».proof.Proof.KRead
public import proofs.«01_k».proof.Proof.KAcc
public import proofs.«01_k».proof.Proof.Core

@[expose] public section

noncomputable section

namespace Cert.KernelIdeal.Val

open Cert.KernelIdeal Cert.KernelIdeal.Tables Cert.KernelIdeal.Gen Cert.KernelIdeal.Run Cert.KernelIdeal.Step Cert.KernelIdeal.Acc Cert.KernelIdeal.Tab
open Idealize.ShloMosaic Idealize.ShloMosaic.TcCoe Cert.Spline

variable (m : (ℓ : Loc nD τ sig) → Buf (Elt Ideal) ℓ) (c : Dev nD)
variable (X : Fin 256 → Fin 4096 → ℝ) (W : Fin 25 → Fin 4096 → Fin 768 → ℝ) (XS : Fin 256 → ℝ) (WS : Fin 25 → Fin 768 → ℝ)
variable (sN dN : Fin 3072 → ℕ) (P : Fin 3072 → Fin 2 → ℝ)

/-- The table's rows are the edges' weights. -/
theorem BT_read (ps : Vec Ideal S3072x2 .f32) (hps : ∀ e a, ps (ix2 e a) = (P e a : EReal)) (e : Fin 3072) (l : Fin 128) :
    BT (shapeCast S2x24x128 (transpose S2x3072 [1, 0] ps transposes_S3072x2_S2x3072_1_0) shapeCasts_S2x3072_S2x24x128) (ix2 e l)
      = ((wgt (P e 0) (P e 1) (l.val % 32) : ℝ) : EReal) := by
  have key : ∀ a : Fin 2, psRow (shapeCast S2x24x128 (transpose S2x3072 [1, 0] ps transposes_S3072x2_S2x3072_1_0) shapeCasts_S2x3072_S2x24x128) a
      ⟨e.val / 128, Nat.div_lt_of_lt_mul e.isLt⟩ (ix3 (0 : Fin 1) (0 : Fin 1) (⟨e.val % 128, Nat.mod_lt _ (by decide)⟩ : Fin 128)) = (P e a : EReal) := by
    intro a
    rw [← hps]
    pointwise [psRow]
  exact tab_read _ _ _ l _ _ (key 0) (key 1)

/-- The product of a node's row and a matrix's column. -/
def dotp (o : Fin 768) (k : Fin 25) (s : Fin 256) : ℝ := ∑ i : Fin 4096, X s i * W k i o

variable (hps : ∀ e a, (m ((c.tc : Thread nD τ).loc main_arg4) : S3072x2.Idx → EReal) (ix2 e a) = (P e a : EReal))
variable (hs : ∀ e, ((m ((c.tc : Thread nD τ).loc main_arg2) : S3072.Idx → BitVec 32) (ix1 e)).toNat = sN e)
variable (hd : ∀ e, ((m ((c.tc : Thread nD τ).loc main_arg3) : S3072.Idx → BitVec 32) (ix1 e)).toNat = dN e) (hd' : ∀ e, dN e < 256)

include hps hs hd hd'

/-- The re-tiled accumulator's entries. -/
theorem AA_read (kk : Fin 32) (d : Fin 256) (s : Fin 128) : ADat (AA m c) kk d s = ((laneSum sN dN P kk.val d s : ℝ) : EReal) := by
  unfold AA
  rw [iblk0_eq, iblk1_eq, iblk2_eq, V_main_v3, V_main_arg2, V_main_arg3]
  refine (AD_read _ _ _ _ (fun e k => wgt (P e 0) (P e 1) k) sN dN (fun e l => BT_read P _ hps e l)
    (fun r l hr => mask_read ⟨r.val, hr⟩ l) hd' (fun e => ?_) (fun e => ?_) kk d s).trans rfl
  · rw [off6_val, ← hd e]
  · rw [off7_val _ _ ((hd e).trans_lt (hd' e)), ← hd e, ← hs e]

/-- The counts of edges. -/
theorem deg_read (d : Fin 256) : ∑ x : Fin 128, degBlk (AA m c) (ix2 d x) = ((deg dN d : ℝ) : EReal) := by
  rw [← lane_deg sN dN P d, coe_sum]
  exact Finset.sum_congr rfl fun s _ => AA_read m c sN dN P hps hs hd hd' 25 d s

variable (hx : ∀ s i, Ideal.ofBits .fp8e4m3 ((m ((c.tc : Thread nD τ).loc main_arg0) : S256x4096.Idx → BitVec 8) (ix2 s i)) = (X s i : EReal))
variable (hw : ∀ k i o, Ideal.ofBits .fp8e4m3 ((m ((c.tc : Thread nD τ).loc main_arg5) : S25x4096x768.Idx → BitVec 8) (ix3 k i o)) = (W k i o : EReal))
variable (hxs : ∀ s, (m ((c.tc : Thread nD τ).loc main_arg1) : S256.Idx → EReal) (ix1 s) = (XS s : EReal))
variable (hws : ∀ k o, (m ((c.tc : Thread nD τ).loc main_arg6) : S25x768.Idx → EReal) (ix2 k o) = (WS k o : EReal))

include hx hw hxs hws

/-- One grid point's share of the running sum. -/
def share (d : Fin 256) (o : Fin 768) (k : Fin 25) : ℝ :=
  ∑ s : Fin 128, laneSum sN dN P k.val d s * XS (mate d s) * (dotp X W o k (mate d s) * WS k o)

theorem ACC_read (d : Fin 256) (o : Fin 768) (n : ℕ) (hn : n ≤ 25) : ACC m c n (ix2 d o)
    = ((∑ k ∈ Finset.range n, if h : k < 25 then share X W XS WS sN dN P d o ⟨k, h⟩ else 0 : ℝ) : EReal) := by
  induction n with
  | zero =>
    rw [Finset.range_zero, Finset.sum_empty, EReal.coe_zero]
    exact pay9_read d o
  | succ k ih =>
    have hk : k < 25 := hn
    rw [Finset.sum_range_succ, EReal.coe_add, ← ih hk.le, dif_pos hk, ACC, dif_pos hk]
    refine accStep_read _ _ _ _ _ _ _ d o (fun s => dotp X W o ⟨k, hk⟩ s * WS ⟨k, hk⟩ o) XS _ (fun s => ?_) (fun g s => ?_)
      (fun s => AA_read m c sN dN P hps hs hd hd' ⟨k, by omega⟩ d s)
    · rw [pay30_read, EReal.coe_mul]
      refine congrArg₂ (· * ·) ?_ ?_
      · unfold dotp
        rw [coe_sum]
        refine Finset.sum_congr rfl fun i _ => ?_
        rw [EReal.coe_mul, ← hx, ← hw, iblk5_eq, V_main_v0, iblk6_eq m c _ hk i o, V_main_v1]
        rfl
      · rw [← hws, iblk7_eq, V_main_arg6]
        rfl
    · rw [← hxs, iblk3_eq, V_main_v4]
      pointwise
      exact congrArg (fun i : Fin 256 => (m ((c.tc : Thread nD τ).loc main_arg1) : S256.Idx → EReal) (ix1 i)) (Fin.ext (by show g.val * 128 + s.val = 128 * g.val + s.val; omega))

/-- The second result's entry. -/
theorem AGG_read (d : Fin 256) (o : Fin 768) : AGG m c (ix2 d o)
    = Ideal.div ((∑ k : Fin 25, share X W XS WS sN dN P d o k : ℝ) : EReal) (max ((deg dN d : ℝ) : EReal) 1) := by
  unfold AGG
  rw [pay10_read, deg_read m c sN dN P hps hs hd hd', ACC_read m c X W XS WS sN dN P hps hs hd hd' hx hw hxs hws d o 25 le_rfl, Finset.sum_range]
  simp only [Fin.is_lt, dif_pos, Fin.eta]

end Cert.KernelIdeal.Val

end
-- ==== Proof.RefTail.lean ====
/-
  The reference's host mathematics: what its lines after the decoding leave in the two results, as functions of the arguments.
-/
module

public import proofs.«01_k».proof.Proof.Gen.ReferenceIdeal.Frame
public import Idealize.ShloMosaic.Lib.StableHlo.RunRead

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL.Sem

variable {F : FTy → Type} [FloatOps F]

/-! ## The functions -/

/-- Three times the coordinates. -/
def q4 (ps : Vec F S3072x2 .f32) : Vec F S3072x2 .f32 := mulf ps (broadcastInDim S3072x2 ![] bcast_S_S3072x2 (constant S_ .f32 0x40400000#32))
/-- Their whole parts, kept within 0 and 2. -/
def q6 (ps : Vec F S3072x2 .f32) : Vec F S3072x2 .f32 :=
  minimumf (broadcastInDim S3072x2 ![] bcast_S_S3072x2 (sitofp .f32 (constantI S_ 32 2#32)))
    (maximumf (broadcastInDim S3072x2 ![] bcast_S_S3072x2 (sitofp .f32 (constantI S_ 32 0#32))) (Host.floor (q4 ps)))
/-- The same as words. -/
def q7 (ps : Vec F S3072x2 .f32) : Vec F S3072x2 .i32 := fptosi 32 (q6 ps)
/-- The fractions. -/
def q9 (ps : Vec F S3072x2 .f32) : Vec F S3072x2 .f32 := subf (q4 ps) (sitofp .f32 (q7 ps))
/-- One half everywhere. -/
def half : Vec F S3072x2 .f32 := broadcastInDim S3072x2 ![] bcast_S_S3072x2 (constant S_ .f32 0x3F000000#32)
/-- The three basis values of a fraction. -/
def q14 (f : Vec F S3072x2 .f32) : Vec F S3072x2 .f32 :=
  mulf half (mulf (subf (broadcastInDim S3072x2 ![] bcast_S_S3072x2 (constant S_ .f32 0x3F800000#32)) f)
    (subf (broadcastInDim S3072x2 ![] bcast_S_S3072x2 (constant S_ .f32 0x3F800000#32)) f))
def q19 (f : Vec F S3072x2 .f32) : Vec F S3072x2 .f32 := addf (addf (mulf (Host.negf f) f) f) half
def q22 (f : Vec F S3072x2 .f32) : Vec F S3072x2 .f32 := mulf (mulf half f) f
/-- The three stacked. -/
def q26 (a b c : Vec F S3072x2 .f32) : Vec F S3072x2x3 .f32 :=
  concatenate S3072x2x3 2 [⟨S3072x2x1, broadcastInDim S3072x2x1 ![0, 1] bcast_S3072x2_S3072x2x1_0_1 a⟩,
    ⟨S3072x2x1, broadcastInDim S3072x2x1 ![0, 1] bcast_S3072x2_S3072x2x1_0_1 b⟩,
    ⟨S3072x2x1, broadcastInDim S3072x2x1 ![0, 1] bcast_S3072x2_S3072x2x1_0_1 c⟩] concatenates_S3072x2x1_S3072x2x1_S3072x2x1_S3072x2x3_d2
/-- The nine matrices' numbers of every edge. -/
def q49 (v8 : Vec F S3072x2 .i32) (v28 : Vec F S3 .i32) : Vec F S3072x9 .i32 :=
  shapeCast S3072x9 (addi
    (broadcastInDim S3072x3x3 ![0, 1, 2] bcast_S3072x1x3_S3072x3x3_0_1_2 (broadcastInDim S3072x1x3 ![0, 2] bcast_S3072x3_S3072x1x3_0_2
      (addi (broadcastInDim S3072x3 ![0, 1] bcast_S3072x1_S3072x3_0_1 (broadcastInDim S3072x1 ![0] bcast_S3072_S3072x1_0
          (shapeCast S3072 (extractStridedSlice S3072x1 ![0, 0] v8 slices_S3072x2_S3072x1_0_0) shapeCasts_S3072x1_S3072)))
        (broadcastInDim S3072x3 ![0, 1] bcast_S1x3_S3072x3_0_1 (broadcastInDim S1x3 ![1] bcast_S3_S1x3_1 v28)))))
    (broadcastInDim S3072x3x3 ![0, 1, 2] bcast_S3072x3x1_S3072x3x3_0_1_2
      (muli (broadcastInDim S3072x3x1 ![] bcast_S_S3072x3x1 (constantI S_ 32 5#32)) (broadcastInDim S3072x3x1 ![0, 1] bcast_S3072x3_S3072x3x1_0_1
        (addi (broadcastInDim S3072x3 ![0, 1] bcast_S3072x1_S3072x3_0_1 (broadcastInDim S3072x1 ![0] bcast_S3072_S3072x1_0
            (shapeCast S3072 (extractStridedSlice S3072x1 ![0, 1] v8 slices_S3072x2_S3072x1_0_1) shapeCasts_S3072x1_S3072)))
          (broadcastInDim S3072x3 ![0, 1] bcast_S1x3_S3072x3_0_1 (broadcastInDim S1x3 ![1] bcast_S3_S1x3_1 v28))))))) shapeCasts_S3072x3x3_S3072x9
/-- The nine weights of every edge. -/
def q59 (b : Vec F S3072x2x3 .f32) : Vec F S3072x9 .f32 :=
  shapeCast S3072x9 (mulf
    (broadcastInDim S3072x3x3 ![0, 1, 2] bcast_S3072x1x3_S3072x3x3_0_1_2 (broadcastInDim S3072x1x3 ![0, 2] bcast_S3072x3_S3072x1x3_0_2
      (shapeCast S3072x3 (extractStridedSlice S3072x1x3 ![0, 0, 0] b slices_S3072x2x3_S3072x1x3_0_0_0) shapeCasts_S3072x1x3_S3072x3)))
    (broadcastInDim S3072x3x3 ![0, 1, 2] bcast_S3072x3x1_S3072x3x3_0_1_2 (broadcastInDim S3072x3x1 ![0, 1] bcast_S3072x3_S3072x3x1_0_1
      (shapeCast S3072x3 (extractStridedSlice S3072x1x3 ![0, 1, 0] b slices_S3072x2x3_S3072x1x3_0_1_0) shapeCasts_S3072x1x3_S3072x3))))
    shapeCasts_S3072x3x3_S3072x9
/-- Every node against every matrix, scaled. -/
def q66 (x : Vec F S256x4096 .f32) (w : Vec F S25x4096x768 .f32) (xs : Vec F S256 .f32) (ws : Vec F S25x768 .f32) : Vec F S256x25x768 .f32 :=
  mulf (mulf (Host.dotGeneral dot_S256x4096_S25x4096x768_S256x25x768_1_1_0_02_n_n none x w)
      (broadcastInDim S256x25x768 ![0, 1, 2] bcast_S256x1x1_S256x25x768_0_1_2 (broadcastInDim S256x1x1 ![0] bcast_S256_S256x1x1_0 xs)))
    (broadcastInDim S256x25x768 ![0, 1, 2] bcast_S1x25x768_S256x25x768_0_1_2 (broadcastInDim S1x25x768 ![1, 2] bcast_S25x768_S1x25x768_1_2 ws))
/-- The sources' numbers, a negative one counted from the end. -/
def q72 (src : Vec F S3072 .i32) : Vec F S3072x1 .i32 :=
  select (cmpi .slt (broadcastInDim S3072x1 ![0] bcast_S3072_S3072x1_0 src) (broadcastInDim S3072x1 ![] bcast_S_S3072x1 (constantI S_ 32 0#32)))
    (addi (broadcastInDim S3072x1 ![0] bcast_S3072_S3072x1_0 src) (broadcastInDim S3072x1 ![] bcast_S_S3072x1 (constantI S_ 32 256#32)))
    (broadcastInDim S3072x1 ![0] bcast_S3072_S3072x1_0 src)
/-- The matrices' numbers, a negative one counted from the end. -/
def q77 (k : Vec F S3072x9 .i32) : Vec F S3072x9 .i32 :=
  select (cmpi .slt k (broadcastInDim S3072x9 ![] bcast_S_S3072x9 (constantI S_ 32 0#32)))
    (addi k (broadcastInDim S3072x9 ![] bcast_S_S3072x9 (constantI S_ 32 25#32))) k
/-- The pairs of a node's and a matrix's number to gather at. -/
def q81 (src : Vec F S3072 .i32) (k : Vec F S3072x9 .i32) : Vec F S3072x9x2 .i32 :=
  concatenate S3072x9x2 2 [⟨S3072x9x1, broadcastInDim S3072x9x1 ![0, 1] bcast_S3072x9_S3072x9x1_0_1 (broadcastInDim S3072x9 ![0, 1] bcast_S3072x1_S3072x9_0_1 (q72 (F := F) src))⟩,
    ⟨S3072x9x1, broadcastInDim S3072x9x1 ![0, 1] bcast_S3072x9_S3072x9x1_0_1 (q77 (F := F) k)⟩] concatenates_S3072x9x1_S3072x9x1_S3072x9x2_d2
/-- The edges' messages. -/
def q83 (b : Vec F S3072x9 .f32) (y : Vec F S256x25x768 .f32) (i : Vec F S3072x9x2 .i32) : Vec F S3072x768 .f32 :=
  Host.dotGeneral dot_S3072x9_S3072x9x768_S3072x768_1_1_n_2_0_0 (some .fp32) b
    (Host.gather gather_S256x25x768_S3072x9x2_S3072x9x768_2_01_n_n_01_2_11768 y i)
/-- The targets' edge counts. -/
def q89 (dst : Vec F S3072 .i32) : Vec F S256 .f32 :=
  Host.scatterAdd scatter_S256_S3072x1_S3072_n_0_0_1 (broadcastInDim S256 ![] bcast_S_S256 (constant S_ .f32 0x00000000#32))
    (broadcastInDim S3072x1 ![0] bcast_S3072_S3072x1_0 dst) (broadcastInDim S3072 ![] bcast_S_S3072 (constant S_ .f32 0x3F800000#32))
/-- The targets' message sums. -/
def q92 (dst : Vec F S3072 .i32) (msg : Vec F S3072x768 .f32) : Vec F S256x768 .f32 :=
  Host.scatterAdd scatter_S256x768_S3072x1_S3072x768_1_0_0_1 (broadcastInDim S256x768 ![] bcast_S_S256x768 (constant S_ .f32 0x00000000#32))
    (broadcastInDim S3072x1 ![0] bcast_S3072_S3072x1_0 dst) msg
/-- Their means. -/
def q97 (s : Vec F S256x768 .f32) (n : Vec F S256 .f32) : Vec F S256x768 .f32 :=
  Host.divf s (broadcastInDim S256x768 ![0, 1] bcast_S256x1_S256x768_0_1 (broadcastInDim S256x1 ![0] bcast_S256_S256x1_0
    (maximumf n (broadcastInDim S256 ![] bcast_S_S256 (constant S_ .f32 0x3F800000#32)))))
/-- The means, the root product and the bias, summed and rounded. -/
def q109 (agg : Vec F S256x768 .f32) (x : Vec F S256x4096 .f32) (wr : Vec F S4096x768 .f32) (xs : Vec F S256 .f32) (wrs : Vec F S768 .f32) (bias : Vec F S768 .f32) : Vec F S256x768 .bf16 :=
  truncf .bf16 (addf (addf agg
    (mulf (mulf (Host.dotGeneral dot_S256x4096_S4096x768_S256x768_1_0_0_1_n_n none x wr)
        (broadcastInDim S256x768 ![0, 1] bcast_S256x1_S256x768_0_1 (broadcastInDim S256x1 ![0] bcast_S256_S256x1_0 xs)))
      (broadcastInDim S256x768 ![0, 1] bcast_S1x768_S256x768_0_1 (broadcastInDim S1x768 ![1] bcast_S768_S1x768_1 wrs))))
    (broadcastInDim S256x768 ![0, 1] bcast_S1x768_S256x768_0_1 (broadcastInDim S1x768 ![1] bcast_S768_S1x768_1 bias))) bitsLt_bf16_f32

/-- The two results as functions of the arguments and the decoded arrays. -/
def refAgg (x : Vec F S256x4096 .f32) (w : Vec F S25x4096x768 .f32) (xs : Vec F S256 .f32) (ws : Vec F S25x768 .f32) (src dst : Vec F S3072 .i32) (ps : Vec F S3072x2 .f32) : Vec F S256x768 .f32 :=
  q97 (q92 dst (q83 (q59 (q26 (q14 (q9 ps)) (q19 (q9 ps)) (q22 (q9 ps)))) (q66 x w xs ws)
    (q81 (F := F) src (q49 (F := F) (q7 ps) (iotaInDim S3 32 0))))) (q89 dst)

/-! ## The lines -/

abbrev ops1 : List (HloOp τ sig (Elt F)) := [hostOps1, hostOps1_1, hostOps1_2.take 24].flatten
abbrev ops2 : List (HloOp τ sig (Elt F)) := (hostOps1_2.drop 24).take 60
abbrev ops3 : List (HloOp τ sig (Elt F)) := hostOps1_2.drop 84

theorem concat3 {v : EltTy} (a a' b b' c c' : Vec F S3072x2x1 v) (ha : a = a') (hb : b = b') (hc : c = c') (h) :
    concatenate S3072x2x3 2 [⟨S3072x2x1, a⟩, ⟨S3072x2x1, b⟩, ⟨S3072x2x1, c⟩] h = concatenate S3072x2x3 2 [⟨S3072x2x1, a'⟩, ⟨S3072x2x1, b'⟩, ⟨S3072x2x1, c'⟩] h := by
  rw [ha, hb, hc]

theorem concat2 {v : EltTy} (a a' b b' : Vec F S3072x9x1 v) (ha : a = a') (hb : b = b') (h) :
    concatenate S3072x9x2 2 [⟨S3072x9x1, a⟩, ⟨S3072x9x1, b⟩] h = concatenate S3072x9x2 2 [⟨S3072x9x1, a'⟩, ⟨S3072x9x1, b'⟩] h := by
  rw [ha, hb]

variable (σ : Valuation τ sig (Elt F))

theorem ops1_v7 : StableHlo.after ops1 σ (Proc.devRef .tc main_v7) = q7 (σ (Proc.devRef .tc main_arg4)) := by
  after_reads_simp; rfl
theorem ops1_v26 : StableHlo.after ops1 σ (Proc.devRef .tc main_v26) = q26 (q14 (q9 (σ (Proc.devRef .tc main_arg4)))) (q19 (q9 (σ (Proc.devRef .tc main_arg4)))) (q22 (q9 (σ (Proc.devRef .tc main_arg4)))) := by
  after_reads_simp
  refine concat3 _ _ _ _ _ _ ?_ ?_ ?_ _
  · show StableHlo.upto ops1 σ _ (Proc.devRef .tc main_v23) = _
    after_reads_simp
    rfl
  · show StableHlo.upto ops1 σ _ (Proc.devRef .tc main_v24) = _
    after_reads_simp
    rfl
  · show StableHlo.upto ops1 σ _ (Proc.devRef .tc main_v25) = _
    after_reads_simp
    rfl

theorem ops2_v81 : StableHlo.after ops2 σ (Proc.devRef .tc main_v81) = q81 (F := F) (σ (Proc.devRef .tc main_arg2)) (q49 (F := F) (σ (Proc.devRef .tc main_v7)) (iotaInDim S3 32 0)) := by
  after_reads_simp
  refine concat2 _ _ _ _ ?_ ?_ _
  · after_reads_simp
    rfl
  · after_reads_simp
    rfl
theorem ops2_v59 : StableHlo.after ops2 σ (Proc.devRef .tc main_v59) = q59 (σ (Proc.devRef .tc main_v26)) := by
  after_reads_simp
  rfl
theorem ops2_v66 : StableHlo.after ops2 σ (Proc.devRef .tc main_v66) = q66 (σ (Proc.devRef .tc main_v2_0)) (σ (Proc.devRef .tc main_v2_1)) (σ (Proc.devRef .tc main_arg1)) (σ (Proc.devRef .tc main_arg6)) := by
  after_reads_simp
  rfl
theorem ops3_v97 : StableHlo.after ops3 σ (Proc.devRef .tc main_v97) = q97 (q92 (σ (Proc.devRef .tc main_arg3))
    (q83 (σ (Proc.devRef .tc main_v59)) (σ (Proc.devRef .tc main_v66)) (σ (Proc.devRef .tc main_v81)))) (q89 (σ (Proc.devRef .tc main_arg3))) := by
  after_reads_simp
  rfl
theorem ops3_v109 : StableHlo.after ops3 σ (Proc.devRef .tc main_v109) = q109 (StableHlo.after ops3 σ (Proc.devRef .tc main_v97)) (σ (Proc.devRef .tc main_v2_0)) (σ (Proc.devRef .tc main_v2_2))
    (σ (Proc.devRef .tc main_arg1)) (σ (Proc.devRef .tc main_arg8)) (σ (Proc.devRef .tc main_arg9)) := by
  after_reads_simp
  rfl

theorem split : ([hostOps1, hostOps1_1, hostOps1_2].flatten : List (HloOp τ sig (Elt F))) = ops1 ++ (ops2 ++ ops3) := rfl

/-- The mean result after the lines. -/
theorem tail_v97 : StableHlo.after [hostOps1, hostOps1_1, hostOps1_2].flatten σ (Proc.devRef .tc main_v97)
    = refAgg (σ (Proc.devRef .tc main_v2_0)) (σ (Proc.devRef .tc main_v2_1)) (σ (Proc.devRef .tc main_arg1)) (σ (Proc.devRef .tc main_arg6))
      (σ (Proc.devRef .tc main_arg2)) (σ (Proc.devRef .tc main_arg3)) (σ (Proc.devRef .tc main_arg4)) := by
  rw [split, StableHlo.after_append, StableHlo.after_append, ops3_v97, ops2_v81, ops2_v59, ops2_v66, ops1_v7, ops1_v26]
  after_reads_simp
  rfl

/-- The rounded result after the lines. -/
theorem tail_v109 : StableHlo.after [hostOps1, hostOps1_1, hostOps1_2].flatten σ (Proc.devRef .tc main_v109)
    = q109 (StableHlo.after [hostOps1, hostOps1_1, hostOps1_2].flatten σ (Proc.devRef .tc main_v97)) (σ (Proc.devRef .tc main_v2_0)) (σ (Proc.devRef .tc main_v2_2))
    (σ (Proc.devRef .tc main_arg1)) (σ (Proc.devRef .tc main_arg8)) (σ (Proc.devRef .tc main_arg9)) := by
  rw [split, StableHlo.after_append, StableHlo.after_append, ops3_v109]
  generalize StableHlo.after ops3 (StableHlo.after ops2 (StableHlo.after ops1 σ)) (Proc.devRef .tc main_v97) = z
  after_reads_simp

end Cert.ReferenceIdeal.Ref

end
-- ==== Proof.RefDims.lean ====
/-
  Where the reference's gather reads and where its two scatters write.
-/
module

public import proofs.«01_k».proof.Proof.Gen.ReferenceIdeal
public import Idealize.ShloMosaic.Lib.ValueIdx
public import Idealize.ShloMosaic.Lib.ValueIdxRank1
public import Idealize.ShloMosaic.Lib.Pointwise

@[expose] public section

noncomputable section

namespace Cert.ReferenceIdeal.Ref

open Cert.ReferenceIdeal Cert.ReferenceIdeal.Gen
open Idealize.ShloMosaic
open Idealize.ShloMosaic.ValueIdx (idxEquiv1)

abbrev gd : GatherDims S256x25x768 S3072x9x2 S3072x9x768 := gather_S256x25x768_S3072x9x2_S3072x9x768_2_01_n_n_01_2_11768

/-- The gathered row: the node's and the matrix's numbers, clamped to the array. -/
theorem gather_read {α : Type} (x : S256x25x768.Idx → α) (idx : IVec S3072x9x2 32) (e : Fin 3072) (s : Fin 9) (o : Fin 768) (n : Fin 256) (k : Fin 25)
    (hn : (idx (ix3 e s (0 : Fin 2))).toInt = n.val) (hk : (idx (ix3 e s (1 : Fin 2))).toInt = k.val) :
    Host.gather gd x idx (ix3 e s o) = x (ix3 n k o) := by
  have e0 : gd.siIdx (ix3 e s o) ⟨0, by decide⟩ = ix3 e s (0 : Fin 2) := by funext b; fin_cases b <;> rfl
  have e1 : gd.siIdx (ix3 e s o) ⟨1, by decide⟩ = ix3 e s (1 : Fin 2) := by funext b; fin_cases b <;> rfl
  have s0 : gd.start (ix3 e s o) idx (0 : Fin 3) = min (idx (gd.siIdx (ix3 e s o) ⟨0, by decide⟩)).toInt.toNat 255 := rfl
  have s1 : gd.start (ix3 e s o) idx (1 : Fin 3) = min (idx (gd.siIdx (ix3 e s o) ⟨1, by decide⟩)).toInt.toNat 24 := rfl
  show x _ = x _
  refine congrArg x ?_
  funext b
  refine Fin.ext ?_
  fin_cases b
  · show gd.start (ix3 e s o) idx (0 : Fin 3) + 0 + 0 = n.val
    rw [s0, e0, hn]
    have := n.isLt
    omega
  · show gd.start (ix3 e s o) idx (1 : Fin 3) + 0 + 0 = k.val
    rw [s1, e1, hk]
    have := k.isLt
    omega
  · show 0 + 0 + o.val = o.val
    omega

abbrev sd1 : ScatterDims S256 S3072x1 S3072 := scatter_S256_S3072x1_S3072_n_0_0_1
abbrev sd2 : ScatterDims S256x768 S3072x1 S3072x768 := scatter_S256x768_S3072x1_S3072x768_1_0_0_1

/-- An edge's count lands at its target. -/
theorem scatter1_at (idx : IVec S3072x1 32) (e : Fin 3072) (n : Fin 256) (hn : (idx (ix2 e (0 : Fin 1))).toInt = n.val) :
    sd1.resultIdx? (ix1 e) idx = some (ix1 n) := by
  have e0 : sd1.siIdx (ix1 e) ⟨0, by decide⟩ = ix2 e (0 : Fin 1) := by funext b; fin_cases b <;> rfl
  have s0 : ∀ a : Fin 1, sd1.start (ix1 e) idx a + sd1.window (ix1 e) a = n.val := by
    intro a
    fin_cases a
    show (idx (sd1.siIdx (ix1 e) ⟨0, by decide⟩)).toInt + ((0 : ℕ) : ℤ) = n.val
    rw [e0, hn]; omega
  unfold ScatterDims.resultIdx?
  rw [dif_pos (fun a => by rw [s0 a]; have := n.isLt; fin_cases a; constructor; · omega
                           · show (n.val : ℤ) < ((256 : ℕ) : ℤ); omega)]
  refine congrArg some (funext fun a => Fin.ext ?_)
  show (sd1.start (ix1 e) idx a + sd1.window (ix1 e) a).toNat = _
  rw [s0 a]
  fin_cases a
  rfl

/-- An edge's message lands at its target's row. -/
theorem scatter2_at (idx : IVec S3072x1 32) (e : Fin 3072) (o : Fin 768) (n : Fin 256) (hn : (idx (ix2 e (0 : Fin 1))).toInt = n.val) :
    sd2.resultIdx? (ix2 e o) idx = some (ix2 n o) := by
  have e0 : sd2.siIdx (ix2 e o) ⟨0, by decide⟩ = ix2 e (0 : Fin 1) := by funext b; fin_cases b <;> rfl
  have s0 : sd2.start (ix2 e o) idx (0 : Fin 2) + sd2.window (ix2 e o) (0 : Fin 2) = n.val := by
    show (idx (sd2.siIdx (ix2 e o) ⟨0, by decide⟩)).toInt + ((0 : ℕ) : ℤ) = n.val
    rw [e0, hn]; omega
  have s1 : sd2.start (ix2 e o) idx (1 : Fin 2) + sd2.window (ix2 e o) (1 : Fin 2) = o.val := by
    show (0 : ℤ) + ((o.val : ℕ) : ℤ) = o.val
    omega
  unfold ScatterDims.resultIdx?
  rw [dif_pos (fun a => by
    have := n.isLt; have := o.isLt
    match a with
    | 0 => rw [s0]; exact ⟨by omega, by show (n.val : ℤ) < ((256 : ℕ) : ℤ); omega⟩
    | 1 => rw [s1]; exact ⟨by omega, by show (o.val : ℤ) < ((768 : ℕ) : ℤ); omega⟩)]
  refine congrArg some (funext fun a => Fin.ext ?_)
  show (sd2.start (ix2 e o) idx a + sd2.window (ix2 e o) a).toNat = _
  match a with
  | 0 => rw [s0]; rfl
  | 1 => rw [s1]; rfl

/-- The count array's entry: the targets' edges counted. -/
theorem scatter1_read (idx : IVec S3072x1 32) (x : FVec Ideal S256 .f32) (upd : FVec Ideal S3072 .f32) (dN : Fin 3072 → ℕ) (hd : ∀ e, dN e < 256)
    (h : ∀ e, (idx (ix2 e (0 : Fin 1))).toInt = dN e) (d : Fin 256) :
    Host.scatterAdd sd1 x idx upd (ix1 d) = x (ix1 d) + ∑ e : Fin 3072, if dN e = d.val then upd (ix1 e) else 0 := by
  show x (ix1 d) + ∑ j ∈ Finset.univ.filter (fun j => sd1.resultIdx? j idx = some (ix1 d)), upd j = _
  rw [Finset.sum_filter]
  refine congrArg _ ?_
  rw [← Equiv.sum_comp (idxEquiv1 (n := 3072)).symm]
  refine Finset.sum_congr rfl fun e _ => ?_
  have e1 : (idxEquiv1 (n := 3072)).symm e = ix1 e := rfl
  rw [e1, scatter1_at idx e ⟨dN e, hd e⟩ (h e)]
  refine if_congr ⟨fun h' => ?_, fun h' => ?_⟩ rfl rfl
  · exact congrArg Fin.val (congrFun (Option.some.inj h') 0)
  · exact congrArg (fun n : Fin 256 => some (ix1 n)) (Fin.ext h')

/-- The messages' sums: each entry gathers those of its target's edges. -/
theorem scatter2_read (idx : IVec S3072x1 32) (x : FVec Ideal S256x768 .f32) (upd : FVec Ideal S3072x768 .f32) (dN : Fin 3072 → ℕ) (hd : ∀ e, dN e < 256)
    (h : ∀ e, (idx (ix2 e (0 : Fin 1))).toInt = dN e) (d : Fin 256) (o : Fin 768) :
    Host.scatterAdd sd2 x idx upd (ix2 d o) = x (ix2 d o) + ∑ e : Fin 3072, if dN e = d.val then upd (ix2 e o) else 0 := by
  show x (ix2 d o) + ∑ j ∈ Finset.univ.filter (fun j => sd2.resultIdx? j idx = some (ix2 d o)), upd j = _
  rw [Finset.sum_filter]
  refine congrArg _ ?_
  rw [sum_idx2]
  refine Finset.sum_congr rfl fun e _ => ?_
  have e1 : ∀ o' : Fin 768, (if sd2.resultIdx? (ix2 e o') idx = some (ix2 d o) then upd (ix2 e o') else 0)
      = if o' = o then (if dN e = d.val then upd (ix2 e o) else 0) else 0 := by
    intro o'
    rw [scatter2_at idx e o' ⟨dN e, hd e⟩ (h e)]
    by_cases h2 : o' = o
    · rw [if_pos h2, h2]
      refine if_congr ⟨fun h' => ?_, fun h' => ?_⟩ rfl rfl
      · exact congrArg Fin.val (congrFun (Option.some.inj h') 0)
      · exact congrArg (fun n : Fin 256 => some (ix2 n o)) (Fin.ext h')
    · rw [if_neg h2, if_neg (fun h' => h2 (congrFun (Option.some.inj h') 1))]
  rw [Finset.sum_congr rfl fun o' _ => e1 o', Finset.sum_ite_eq' Finset.univ, if_pos (Finset.mem_univ _)]

end Cert.ReferenceIdeal.Ref

end
-- ==== Proof.RefVal.lean ====
/-
  The reference's functions read at their entries.
-/
module

public import proofs.«01_k».proof.Proof.RefTail
public import proofs.«01_k».proof.Proof.RefDims
public import proofs.«01_k».proof.Proof.Core
public import proofs.«01_k».proof.Proof.KTab

@[expose] public section

noncomputable section

namespace Cert.ReferenceIdeal.Ref

open Cert.ReferenceIdeal Cert.ReferenceIdeal.Gen
open Idealize.ShloMosaic Cert.Spline
open Cert.KernelIdeal.Tab (sitofp_read)

variable (ps : Vec Ideal S3072x2 .f32)

/-- The kept whole part is the first touched knot. -/
theorem q6_read (e : Fin 3072) (a : Fin 2) (p : ℝ) (h : ps (ix2 e a) = (p : EReal)) : q6 ps (ix2 e a) = ((lo p : ℝ) : EReal) := by
  pointwise [q6, q4]
  have e2 : (2#32).toInt = 2 := by decide
  have e0 : (0#32).toInt = 0 := by decide
  rw [h, ofBits_three, sitofp_read, sitofp_read, e2, e0, Int.cast_zero, EReal.coe_zero, Int.cast_ofNat, Cert.KernelIdeal.Tab.lo_read]

/-- A knot's word. -/
theorem word_lo (p : ℝ) : FloatOps.fptosi (F := Ideal) (φ := .f32) 32 ((lo p : ℝ) : EReal) = BitVec.ofNat 32 (lo p).toNat := by
  show BitVec.ofInt 32 (Ideal.toIntClamped _ _ ((lo p : ℝ) : EReal)) = _
  have h0 := lo_nonneg p
  have h2 := lo_le p
  rw [Ideal.toIntClamped_coe, if_pos (by exact_mod_cast h0), Int.floor_intCast]
  obtain h | h | h : lo p = 0 ∨ lo p = 1 ∨ lo p = 2 := by omega
  all_goals rw [h]; decide

theorem q7_read (e : Fin 3072) (a : Fin 2) (p : ℝ) (h : ps (ix2 e a) = (p : EReal)) : q7 ps (ix2 e a) = BitVec.ofNat 32 (lo p).toNat := by
  show FloatOps.fptosi (F := Ideal) (φ := .f32) 32 (q6 ps (ix2 e a)) = _
  rw [q6_read ps e a p h, word_lo]

/-- The fraction. -/
theorem q9_read (e : Fin 3072) (a : Fin 2) (p : ℝ) (h : ps (ix2 e a) = (p : EReal)) : q9 ps (ix2 e a) = ((fr p : ℝ) : EReal) := by
  pointwise [q9, q7, q4]
  rw [q6_read ps e a p h, word_lo, h, ofBits_three, sitofp_read]
  have h0 := lo_nonneg p
  have h2 := lo_le p
  have e1 : (BitVec.ofNat 32 (lo p).toNat).toInt = lo p := by
    obtain h | h | h : lo p = 0 ∨ lo p = 1 ∨ lo p = 2 := by omega
    all_goals rw [h]; decide
  rw [e1]
  unfold fr
  push_cast
  rfl

/-- The stacked basis values. -/
theorem q26_read (f : Vec Ideal S3072x2 .f32) (e : Fin 3072) (a : Fin 2) (j : Fin 3) (p : ℝ) (h : f (ix2 e a) = (p : EReal)) :
    q26 (q14 f) (q19 f) (q22 f) (ix3 e a j) = ((bas p j : ℝ) : EReal) := by
  fin_cases j
  · pointwise [q26, q14, q19, q22, half]
    rw [h, ofBits_half]
    simp only [bas]; push_cast; rfl
  · pointwise [q26, q14, q19, q22, half]
    rw [h, ofBits_half]
    simp only [bas]; push_cast; rfl
  · pointwise [q26, q14, q19, q22, half]
    rw [h, ofBits_half]
    simp only [bas]; push_cast; rfl

/-- The place of the offsets `j1` and `j0` among the nine. -/
abbrev nine (j1 j0 : Fin 3) : Fin 9 := ⟨3 * j1.val + j0.val, by omega⟩

theorem sum_nine (f : Fin 9 → EReal) : ∑ s : Fin 9, f s = ∑ j1 : Fin 3, ∑ j0 : Fin 3, f (nine j1 j0) := by
  rw [← Fintype.sum_prod_type', ← (finProdFinEquiv (m := 3) (n := 3)).sum_comp]
  refine Finset.sum_congr rfl fun x _ => ?_
  obtain ⟨b, a⟩ := x
  exact congrArg f (Fin.ext (by show a.val + 3 * b.val = 3 * b.val + a.val; omega))

theorem word_slot : ∀ (a b : Fin 3) (j1 j0 : Fin 3), IntOp.addi (IntOp.addi (BitVec.ofNat 32 a.val) (BitVec.ofNat 32 j0.val))
    (IntOp.muli (5#32) (IntOp.addi (BitVec.ofNat 32 b.val) (BitVec.ofNat 32 j1.val))) = BitVec.ofNat 32 (a.val + j0.val + 5 * (b.val + j1.val)) := by decide

/-- The number of the matrix. -/
theorem q49_read (e : Fin 3072) (j1 j0 : Fin 3) (p0 p1 : ℝ) (h0 : ps (ix2 e (0 : Fin 2)) = (p0 : EReal)) (h1 : ps (ix2 e (1 : Fin 2)) = (p1 : EReal)) :
    q49 (F := Ideal) (q7 ps) (iotaInDim S3 32 0) (ix2 e (nine j1 j0)) = BitVec.ofNat 32 (slot p0 p1 j1 j0) := by
  have g0 := q7_read ps e 0 p0 h0
  have g1 := q7_read ps e 1 p1 h1
  generalize q7 ps = v8 at g0 g1
  pointwise [q49]
  rw [g0, g1]
  have := lo_nonneg p0; have := lo_le p0; have := lo_nonneg p1; have := lo_le p1
  have d0 : (3 * j1.val + j0.val) % 3 = j0.val := by omega
  have d1 : (3 * j1.val + j0.val) / 3 = j1.val := by omega
  rw [d0, d1]
  exact word_slot ⟨(lo p0).toNat, by omega⟩ ⟨(lo p1).toNat, by omega⟩ j1 j0

/-- The weight. -/
theorem q59_read (b : Vec Ideal S3072x2x3 .f32) (e : Fin 3072) (j1 j0 : Fin 3) :
    q59 b (ix2 e (nine j1 j0)) = b (ix3 e (0 : Fin 2) j0) * b (ix3 e (1 : Fin 2) j1) := by
  have d0 : (⟨(3 * j1.val + j0.val) % 3, by omega⟩ : Fin 3) = j0 := Fin.ext (by show (3 * j1.val + j0.val) % 3 = _; omega)
  have d1 : (⟨(3 * j1.val + j0.val) / 3, by omega⟩ : Fin 3) = j1 := Fin.ext (by show (3 * j1.val + j0.val) / 3 = _; omega)
  pointwise [q59]
  rw [d0, d1]

theorem q66_read (x w xs ws) (s : Fin 256) (k : Fin 25) (o : Fin 768) :
    q66 (F := Ideal) x w xs ws (ix3 s k o) = (∑ i : Fin 4096, x (ix2 s i) * w (ix3 k i o)) * xs (ix1 s) * ws (ix2 k o) := by
  pointwise [q66]

/-- A word that is not negative is taken as it stands. -/
theorem keep (v : BitVec 32) (n : ℕ) (hn : n < 256) (h : v.toNat = n) (c : BitVec 32) :
    (Scalar.select (IntOp.cmpi CmpIPredicate.slt v 0#32) (IntOp.addi v c) v).toInt = n := by
  have e := BitVec.toInt_eq_toNat_cond v
  rw [if_pos (by omega)] at e
  have e0 : (0#32).toInt = 0 := by decide
  have : ¬ IntOp.cmpi CmpIPredicate.slt v 0#32 = 1#1 := by rw [IntOp.cmpi_slt, e0]; omega
  unfold Scalar.select
  rw [show (1 : BitVec 1) = 1#1 from rfl, if_neg this]
  omega

theorem q81_src (src k) (e : Fin 3072) (s : Fin 9) (n : ℕ) (hn : n < 256) (h : (src (ix1 e)).toNat = n) :
    (q81 (F := Ideal) src k (ix3 e s (0 : Fin 2))).toInt = n := by
  have e1 : q81 (F := Ideal) src k (ix3 e s (0 : Fin 2)) = Scalar.select (IntOp.cmpi CmpIPredicate.slt (src (ix1 e)) 0#32) (IntOp.addi (src (ix1 e)) 256#32) (src (ix1 e)) := by
    pointwise [q81, q72, q77]
  rw [e1]
  exact keep _ n hn h _

theorem q81_mat (src k) (e : Fin 3072) (s : Fin 9) (n : ℕ) (hn : n < 256) (h : (k (ix2 e s)).toNat = n) :
    (q81 (F := Ideal) src k (ix3 e s (1 : Fin 2))).toInt = n := by
  have e1 : q81 (F := Ideal) src k (ix3 e s (1 : Fin 2)) = Scalar.select (IntOp.cmpi CmpIPredicate.slt (k (ix2 e s)) 0#32) (IntOp.addi (k (ix2 e s)) 25#32) (k (ix2 e s)) := by
    pointwise [q81, q72, q77]
  rw [e1]
  exact keep _ n hn h _

theorem q83_read (b y i) (e : Fin 3072) (o : Fin 768) :
    q83 (F := Ideal) b y i (ix2 e o) = ∑ s : Fin 9, b (ix2 e s) * Host.gather gd y i (ix3 e s o) := by
  pointwise [q83]

theorem q97_read (s n) (d : Fin 256) (o : Fin 768) : q97 (F := Ideal) s n (ix2 d o) = Ideal.div (s (ix2 d o)) (max (n (ix1 d)) 1) := by
  pointwise [q97]

theorem q109_read (agg x wr xs wrs bias) (d : Fin 256) (o : Fin 768) : q109 (F := Ideal) agg x wr xs wrs bias (ix2 d o)
    = agg (ix2 d o) + (∑ i : Fin 4096, x (ix2 d i) * wr (ix2 i o)) * xs (ix1 d) * wrs (ix1 o) + bias (ix1 o) := by
  pointwise [q109]

/-! ## The first result's entry -/

variable (x : Vec Ideal S256x4096 .f32) (w : Vec Ideal S25x4096x768 .f32) (xs : Vec Ideal S256 .f32) (ws : Vec Ideal S25x768 .f32) (src dst : Vec Ideal S3072 .i32)
variable (X : Fin 256 → Fin 4096 → ℝ) (W : Fin 25 → Fin 4096 → Fin 768 → ℝ) (XS : Fin 256 → ℝ) (WS : Fin 25 → Fin 768 → ℝ)
variable (sN dN : Fin 3072 → ℕ) (P : Fin 3072 → Fin 2 → ℝ)

/-- The product of a node's row and a matrix's column. -/
def dotp (o : Fin 768) (k : Fin 25) (s : Fin 256) : ℝ := ∑ i : Fin 4096, X s i * W k i o

/-- An edge's message. -/
def msg (hs : ∀ e, sN e < 256) (o : Fin 768) (e : Fin 3072) : ℝ :=
  ∑ j1 : Fin 3, ∑ j0 : Fin 3, bas (fr (P e 0)) j0 * bas (fr (P e 1)) j1
    * (dotp X W o ⟨slot (P e 0) (P e 1) j1 j0, slot_lt _ _ _ _⟩ ⟨sN e, hs e⟩ * XS ⟨sN e, hs e⟩ * WS ⟨slot (P e 0) (P e 1) j1 j0, slot_lt _ _ _ _⟩ o)

theorem msg_read (hx : ∀ s i, x (ix2 s i) = (X s i : EReal)) (hw : ∀ k i o, w (ix3 k i o) = (W k i o : EReal))
    (hxs : ∀ s, xs (ix1 s) = (XS s : EReal)) (hws : ∀ k o, ws (ix2 k o) = (WS k o : EReal))
    (hps : ∀ e a, ps (ix2 e a) = (P e a : EReal)) (hs : ∀ e, sN e < 256) (hsrc : ∀ e, (src (ix1 e)).toNat = sN e) (e : Fin 3072) (o : Fin 768) :
    q83 (q59 (q26 (q14 (q9 ps)) (q19 (q9 ps)) (q22 (q9 ps)))) (q66 x w xs ws) (q81 (F := Ideal) src (q49 (F := Ideal) (q7 ps) (iotaInDim S3 32 0))) (ix2 e o)
      = ((msg X W XS WS sN P hs o e : ℝ) : EReal) := by
  rw [q83_read, sum_nine]
  unfold msg
  rw [coe_sum]
  refine Finset.sum_congr rfl fun j1 _ => ?_
  rw [coe_sum]
  refine Finset.sum_congr rfl fun j0 _ => ?_
  have hk := q49_read ps e j1 j0 (P e 0) (P e 1) (hps e 0) (hps e 1)
  have hk' : (q49 (F := Ideal) (q7 ps) (iotaInDim S3 32 0) (ix2 e (nine j1 j0))).toNat = slot (P e 0) (P e 1) j1 j0 := by
    have := slot_lt (P e 0) (P e 1) j1 j0
    rw [hk, BitVec.toNat_ofNat]; omega
  rw [gather_read (q66 x w xs ws) _ e (nine j1 j0) o ⟨sN e, hs e⟩ ⟨slot (P e 0) (P e 1) j1 j0, slot_lt _ _ _ _⟩
    (q81_src src _ e _ _ (hs e) (hsrc e)) (q81_mat src _ e _ _ (by have := slot_lt (P e 0) (P e 1) j1 j0; omega) hk'),
    q66_read, q59_read, q26_read _ _ _ _ _ (q9_read ps e 0 _ (hps e 0)), q26_read _ _ _ _ _ (q9_read ps e 1 _ (hps e 1)), hxs, hws]
  have hd : (∑ i : Fin 4096, x (ix2 ⟨sN e, hs e⟩ i) * w (ix3 ⟨slot (P e 0) (P e 1) j1 j0, slot_lt _ _ _ _⟩ i o))
      = ((dotp X W o ⟨slot (P e 0) (P e 1) j1 j0, slot_lt _ _ _ _⟩ ⟨sN e, hs e⟩ : ℝ) : EReal) := by
    unfold dotp
    rw [coe_sum]
    exact Finset.sum_congr rfl fun i _ => by rw [hx, hw, EReal.coe_mul]
  rw [hd]
  simp only [EReal.coe_mul]

/-- The mean of a target's messages. -/
theorem refAgg_read (hx : ∀ s i, x (ix2 s i) = (X s i : EReal)) (hw : ∀ k i o, w (ix3 k i o) = (W k i o : EReal))
    (hxs : ∀ s, xs (ix1 s) = (XS s : EReal)) (hws : ∀ k o, ws (ix2 k o) = (WS k o : EReal))
    (hps : ∀ e a, ps (ix2 e a) = (P e a : EReal)) (hs : ∀ e, sN e < 256) (hsrc : ∀ e, (src (ix1 e)).toNat = sN e)
    (hd : ∀ e, dN e < 256) (hdst : ∀ e, (dst (ix1 e)).toNat = dN e) (d : Fin 256) (o : Fin 768) :
    refAgg x w xs ws src dst ps (ix2 d o)
      = Ideal.div ((∑ e : Fin 3072, if dN e = d.val then msg X W XS WS sN P hs o e else 0 : ℝ) : EReal) (max ((deg dN d : ℝ) : EReal) 1) := by
  have hi : ∀ e : Fin 3072, (broadcastInDim S3072x1 ![0] bcast_S3072_S3072x1_0 dst (ix2 e (0 : Fin 1))).toInt = dN e := by
    intro e
    have e1 : broadcastInDim S3072x1 ![0] bcast_S3072_S3072x1_0 dst (ix2 e (0 : Fin 1)) = dst (ix1 e) := by pointwise
    have e2 := BitVec.toInt_eq_toNat_cond (dst (ix1 e))
    have := hd e
    have := hdst e
    rw [if_pos (by omega)] at e2
    rw [e1, e2]; omega
  unfold refAgg
  rw [q97_read]
  unfold q92 q89
  rw [scatter2_read _ _ _ dN hd hi, scatter1_read _ _ _ dN hd hi]
  have z2 : broadcastInDim S256x768 ![] bcast_S_S256x768 (constant (F := Ideal) S_ .f32 0x00000000#32) (ix2 d o) = 0 := by pointwise
  have z1 : broadcastInDim S256 ![] bcast_S_S256 (constant (F := Ideal) S_ .f32 0x00000000#32) (ix1 d) = 0 := by pointwise
  have o1 : ∀ e : Fin 3072, broadcastInDim S3072 ![] bcast_S_S3072 (constant (F := Ideal) S_ .f32 0x3F800000#32) (ix1 e) = 1 := fun e => by pointwise
  rw [z2, z1, zero_add, zero_add]
  unfold deg
  rw [coe_sum, coe_sum]
  refine congrArg₂ Ideal.div (Finset.sum_congr rfl fun e _ => ?_) (congrArg (max · 1) (Finset.sum_congr rfl fun e _ => ?_))
  · split
    · exact msg_read ps x w xs ws src X W XS WS sN P hx hw hxs hws hps hs hsrc e o
    · rfl
  · rw [o1]
    split <;> rfl

end Cert.ReferenceIdeal.Ref

end
-- ==== Proof.RefArr.lean ====
/-
  The reference's decoded arrays after its region, and its two results after its run.
-/
module

public import proofs.«01_k».proof.Proof.RefTail
public import Idealize.ShloMosaic.Lib.Pipeline.ValueKit
public import Idealize.ShloMosaic.Lib.Pointwise

@[expose] public section

noncomputable section

namespace Cert.ReferenceIdeal.Ref

open Cert.ReferenceIdeal Cert.ReferenceIdeal.Gen
open Idealize.ShloMosaic Idealize.ShloMosaic.TcCoe Idealize.ShloMosaic.Tactic
open Idealize.SL.Sem

section
variable {F : FTy → Type} [FloatOps F]
variable (m : (ℓ : Loc nD τ sig) → Buf (Elt F) ℓ)

theorem V_main_v0 (c : Dev nD) : V m c main_v0 = bitcastToFloat .fp8e4m3 (m ((c : Thread nD τ).loc main_arg0)) := by entry_read; rfl
theorem V_main_v1 (c : Dev nD) : V m c main_v1 = bitcastToFloat .fp8e4m3 (m ((c : Thread nD τ).loc main_arg5)) := by entry_read; rfl
end

variable (m : (ℓ : Loc nD τ sig) → Buf (Elt Ideal) ℓ) (ρ : Dev nD → PrngReg)

/-- The region's only grid point. -/
abbrev t0 : Fin cfg0.N := ⟨0, by decide⟩

theorem iblk0_eq (c : Dev nD) : (iblk m c 0 t0 : Vec Ideal S256x4096 .fp8e4m3) = V m c main_v0 := by
  have h0 : win0_0.index t0 0 = 0 := by decide +kernel
  have h1 : win0_0.index t0 1 = 0 := by decide +kernel
  funext j
  blk_ext [iblk, h0, h1]
theorem iblk1_eq (c : Dev nD) : (iblk m c 1 t0 : Vec Ideal S25x4096x768 .fp8e4m3) = V m c main_v1 := by
  have h0 : win0_1.index t0 0 = 0 := by decide +kernel
  have h1 : win0_1.index t0 1 = 0 := by decide +kernel
  have h2 : win0_1.index t0 2 = 0 := by decide +kernel
  funext j
  blk_ext [iblk, h0, h1, h2]
theorem iblk2_eq (c : Dev nD) : (iblk m c 2 t0 : Vec Ideal S4096x768 .fp8e4m3) = V m c main_arg7 := by
  have h0 : win0_2.index t0 0 = 0 := by decide +kernel
  have h1 : win0_2.index t0 1 = 0 := by decide +kernel
  funext j
  blk_ext [iblk, h0, h1]

/-- The numbers the arrays hold, decoded from the bytes where they are bytes. -/
abbrev X (c : Dev nD) : Vec Ideal S256x4096 .f32 := fun i => Ideal.ofBits .fp8e4m3 ((m ((c.tc : Thread nD τ).loc main_arg0) : S256x4096.Idx → BitVec 8) i)
abbrev W (c : Dev nD) : Vec Ideal S25x4096x768 .f32 := fun i => Ideal.ofBits .fp8e4m3 ((m ((c.tc : Thread nD τ).loc main_arg5) : S25x4096x768.Idx → BitVec 8) i)
abbrev R (c : Dev nD) : Vec Ideal S4096x768 .f32 := fun i => (m ((c.tc : Thread nD τ).loc main_arg7) : S4096x768.Idx → EReal) i

theorem zeros2 : (![0, 0] : Fin 2 → Nat) = fun _ => 0 := by funext a; fin_cases a <;> rfl
theorem zeros3 : (![0, 0, 0] : Fin 3 → Nat) = fun _ => 0 := by funext a; fin_cases a <;> rfl

theorem out0_3_eq (x0 : Vec Ideal S256x4096 .fp8e4m3) (x1 x2) : (out0_3 (F := Ideal) x0 x1 x2 : S256x4096.Idx → EReal) = x0 := by
  unfold out0_3
  rw [View.canon_unit_zero zeros2, View.ld_unit_zero zeros2]
  unfold k0_pay1
  simp only [shapeCast_self]
  rfl
theorem out0_4_eq (x0) (x1 : Vec Ideal S25x4096x768 .fp8e4m3) (x2) : (out0_4 (F := Ideal) x0 x1 x2 : S25x4096x768.Idx → EReal) = x1 := by
  unfold out0_4
  rw [View.canon_unit_zero zeros3, View.ld_unit_zero zeros3]
  unfold k0_pay2
  simp only [shapeCast_self]
  rfl
theorem out0_5_eq (x0 x1) (x2 : Vec Ideal S4096x768 .fp8e4m3) : (out0_5 (F := Ideal) x0 x1 x2 : S4096x768.Idx → EReal) = x2 := by
  unfold out0_5
  rw [View.canon_unit_zero zeros2, View.ld_unit_zero zeros2]
  unfold k0_pay3
  simp only [shapeCast_self]
  rfl

/-- The region's three result arrays hold those numbers. -/
theorem arr3 (c : Dev nD) : (dats m 0 c).arrAt 3 cfg0.N = X m c := by
  refine (dats m 0 c).arrAt_eq_of_after_last 3 t0 (by decide +kernel) _ fun j => ?_
  blk_simp
  rw [after0_3]
  refine (congrFun (out0_3_eq _ _ _) j).trans ?_
  rw [iblk0_eq, V_main_v0]
  rfl
theorem arr4 (c : Dev nD) : (dats m 0 c).arrAt 4 cfg0.N = W m c := by
  refine (dats m 0 c).arrAt_eq_of_after_last 4 t0 (by decide +kernel) _ fun j => ?_
  blk_simp
  rw [after0_4]
  refine (congrFun (out0_4_eq _ _ _) j).trans ?_
  rw [iblk1_eq, V_main_v1]
  rfl
theorem arr5 (c : Dev nD) : (dats m 0 c).arrAt 5 cfg0.N = R m c := by
  refine (dats m 0 c).arrAt_eq_of_after_last 5 t0 (by decide +kernel) _ fun j => ?_
  blk_simp
  rw [after0_5]
  refine (congrFun (out0_5_eq _ _ _) j).trans ?_
  rw [iblk2_eq, V_main_arg7]

/-- What the host lines after the region start from. -/
abbrev σ1 (c : Dev nD) : Valuation τ sig (Elt Ideal) := Pipeline.withArrays (cfgs 0).spec c (V0 m c) fun w => (dats m 0 c).arrAt w (cfgs 0).N

theorem σ1_arr (c : Dev nD) (w : Fin 6) : σ1 m c (Proc.devRef .tc (Pipeline.arrRef spec0 w)) = (dats m 0 c).arrAt w cfg0.N :=
  Pipeline.withArrays_arr spec0 (by decide) c _ _ w

theorem σ1_arg (c : Dev nD) (b : Ref sig .tc) (hb : ∀ w, Pipeline.arrRef spec0 w ≠ b) : σ1 m c (Proc.devRef .tc b) = V m c b :=
  Pipeline.withArrays_of_ne spec0 c _ _ b hb

/-- The second result. -/
def AGG (c : Dev nD) : Vec Ideal S256x768 .f32 := refAgg (X m c) (W m c) (m ((c.tc : Thread nD τ).loc main_arg1)) (m ((c.tc : Thread nD τ).loc main_arg6))
  (m ((c.tc : Thread nD τ).loc main_arg2)) (m ((c.tc : Thread nD τ).loc main_arg3)) (m ((c.tc : Thread nD τ).loc main_arg4))
/-- The first result. -/
def OUT (c : Dev nD) : Vec Ideal S256x768 .bf16 := q109 (AGG m c) (X m c) (R m c) (m ((c.tc : Thread nD τ).loc main_arg1)) (m ((c.tc : Thread nD τ).loc main_arg8))
  (m ((c.tc : Thread nD τ).loc main_arg9))

theorem end_v97 (c : Dev nD) : Pipeline.afterTail₀ cfgs (dats m) 0 (V0 m) [hostOps1, hostOps1_1, hostOps1_2] c main_v97 = AGG m c := by
  unfold Pipeline.afterTail₀
  refine (tail_v97 (σ1 m c)).trans ?_
  have e3 : σ1 m c (Proc.devRef .tc main_v2_0) = X m c := (σ1_arr m c 3).trans (arr3 m c)
  have e4 : σ1 m c (Proc.devRef .tc main_v2_1) = W m c := (σ1_arr m c 4).trans (arr4 m c)
  rw [e3, e4, σ1_arg m c main_arg1 (by decide), σ1_arg m c main_arg6 (by decide), σ1_arg m c main_arg2 (by decide),
    σ1_arg m c main_arg3 (by decide), σ1_arg m c main_arg4 (by decide), V_main_arg1, V_main_arg6, V_main_arg2, V_main_arg3, V_main_arg4]
  rfl

theorem end_v109 (c : Dev nD) : Pipeline.afterTail₀ cfgs (dats m) 0 (V0 m) [hostOps1, hostOps1_1, hostOps1_2] c main_v109 = OUT m c := by
  have e := end_v97 m c
  unfold Pipeline.afterTail₀ at e ⊢
  refine (tail_v109 (σ1 m c)).trans ?_
  have e3 : σ1 m c (Proc.devRef .tc main_v2_0) = X m c := (σ1_arr m c 3).trans (arr3 m c)
  have e5 : σ1 m c (Proc.devRef .tc main_v2_2) = R m c := (σ1_arr m c 5).trans (arr5 m c)
  rw [e3, e5, σ1_arg m c main_arg1 (by decide), σ1_arg m c main_arg8 (by decide), σ1_arg m c main_arg9 (by decide), V_main_arg1, V_main_arg8, V_main_arg9]
  exact congrArg (fun z => q109 z (X m c) (R m c) _ _ _) e

/-- Every run of the reference ends with its two results at these values and its arguments unchanged. -/
theorem run : θ_run defs (onTc (τ := τ) (main (F := Ideal))) ⟨m, fun _ => 0, ρ⟩ (fun r => ∀ c : Dev nD,
      r.2.mem ((c.tc : Thread nD τ).loc main_v109) = OUT m c
      ∧ r.2.mem ((c.tc : Thread nD τ).loc main_v97) = AGG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h.2 c).2 main_v109 (Pipeline.mem_restRefs_of main_v109 (by decide) (by decide))).trans (end_v109 m c),
      ((h.2 c).2 main_v97 (Pipeline.mem_restRefs_of main_v97 (by decide) (by decide))).trans (end_v97 m c), h.1 c⟩)
    (θ_run_and (unchanged m ρ) (run_main m ρ))

end Cert.ReferenceIdeal.Ref

end
-- ==== Proof.Final.lean ====
/-
  The kernel's two results are the reference's.
-/
module

public import proofs.«01_k».proof.Proof.KVal
public import proofs.«01_k».proof.Proof.RefVal
public import proofs.«01_k».proof.Proof.RefArr
public import proofs.«01_k».proof.Proof.Pre

@[expose] public section

noncomputable section

namespace Cert.Final

open Idealize.ShloMosaic Idealize.ShloMosaic.TcCoe Cert.Spline

section
open Cert.KernelIdeal Cert.KernelIdeal.Gen Cert.KernelIdeal.Run
variable {F : FTy → Type} [FloatOps F]
variable (m : (ℓ : Loc nD τ sig) → Buf (Elt F) ℓ) (ρ : Dev nD → PrngReg)

/-- Every run of the kernel ends with its two results at these values and its arguments unchanged. -/
theorem kernel_run (hdst : ∀ c, DstOk m c) : θ_run defs (onTc (τ := τ) (main (F := F))) ⟨m, fun _ => 0, ρ⟩ (fun r => ∀ c : Dev nD,
      r.2.mem ((c.tc : Thread nD τ).loc main_v8_0) = OUT m c
      ∧ r.2.mem ((c.tc : Thread nD τ).loc main_v8_1) = AGG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.2.1 c).1 11).trans (arr11 m c), ((h.2.1 c).1 12).trans (arr12 m c), h.1.1 c⟩)
    (θ_run_and (frame m ρ hdst) (run_main_quiescent m ρ hdst))
end

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's argument arrays, and the reference's. -/
abbrev ka (b : Ref Cert.KernelIdeal.sig .tc) := m ((c.tc : Thread Cert.KernelIdeal.nD Cert.KernelIdeal.τ).loc b)
abbrev ra (b : Ref Cert.ReferenceIdeal.sig .tc) := m' ((c.tc : Thread Cert.ReferenceIdeal.nD Cert.ReferenceIdeal.τ).loc b)

/-- The second results agree. -/
theorem agg_eq (h : Finite (ka m c Cert.KernelIdeal.main_arg0) (ka m c Cert.KernelIdeal.main_arg1) (ka m c Cert.KernelIdeal.main_arg2) (ka m c Cert.KernelIdeal.main_arg3)
      (ka m c Cert.KernelIdeal.main_arg4) (ka m c Cert.KernelIdeal.main_arg5) (ka m c Cert.KernelIdeal.main_arg6))
    (h0 : ra m' c Cert.ReferenceIdeal.main_arg0 = ka m c Cert.KernelIdeal.main_arg0) (h1 : ra m' c Cert.ReferenceIdeal.main_arg1 = ka m c Cert.KernelIdeal.main_arg1)
    (h2 : ra m' c Cert.ReferenceIdeal.main_arg2 = ka m c Cert.KernelIdeal.main_arg2) (h3 : ra m' c Cert.ReferenceIdeal.main_arg3 = ka m c Cert.KernelIdeal.main_arg3)
    (h4 : ra m' c Cert.ReferenceIdeal.main_arg4 = ka m c Cert.KernelIdeal.main_arg4) (h5 : ra m' c Cert.ReferenceIdeal.main_arg5 = ka m c Cert.KernelIdeal.main_arg5)
    (h6 : ra m' c Cert.ReferenceIdeal.main_arg6 = ka m c Cert.KernelIdeal.main_arg6) :
    Cert.ReferenceIdeal.Ref.AGG m' c = Cert.KernelIdeal.Run.AGG m c := by
  choose xF hx using h.x
  choose wF hw using h.w
  choose xsF hxs using h.xs
  choose wsF hws using h.ws
  choose psF hps using h.ps
  funext j
  obtain ⟨d, o, rfl⟩ : ∃ (d : Fin 256) (o : Fin 768), j = ix2 d o := ⟨j 0, j 1, by funext k; fin_cases k <;> rfl⟩
  have hs := fun e : Fin 3072 => h.src (ix1 e)
  have hd := fun e : Fin 3072 => h.dst (ix1 e)
  have eK := Cert.KernelIdeal.Val.AGG_read m c (fun s i => xF (ix2 s i)) (fun k i o => wF (ix3 k i o)) (fun s => xsF (ix1 s)) (fun k o => wsF (ix2 k o))
    _ _ (fun e a => psF (ix2 e a)) (fun e a => hps (ix2 e a)) (fun e => rfl) (fun e => rfl) hd (fun s i => hx (ix2 s i)) (fun k i o => hw (ix3 k i o))
    (fun s => hxs (ix1 s)) (fun k o => hws (ix2 k o)) d o
  have eR := Cert.ReferenceIdeal.Ref.refAgg_read (ra m' c Cert.ReferenceIdeal.main_arg4) (Cert.ReferenceIdeal.Ref.X m' c) (Cert.ReferenceIdeal.Ref.W m' c)
    (ra m' c Cert.ReferenceIdeal.main_arg1) (ra m' c Cert.ReferenceIdeal.main_arg6) (ra m' c Cert.ReferenceIdeal.main_arg2) (ra m' c Cert.ReferenceIdeal.main_arg3)
    (fun s i => xF (ix2 s i)) (fun k i o => wF (ix3 k i o)) (fun s => xsF (ix1 s)) (fun k o => wsF (ix2 k o))
    _ _ (fun e a => psF (ix2 e a)) (fun s i => by rw [← hx, ← h0]) (fun k i o => by rw [← hw, ← h5])
    (fun s => by rw [h1]; exact hxs (ix1 s)) (fun k o => by rw [h6]; exact hws (ix2 k o)) (fun e a => by rw [h4]; exact hps (ix2 e a))
    hs (fun e => by rw [h2]) hd (fun e => by rw [h3]) d o
  refine eR.trans (Eq.trans ?_ eK.symm)
  refine congrArg (fun z : ℝ => Ideal.div (z : EReal) _) ?_
  exact (core _ _ (fun e a => psF (ix2 e a)) hs (fun e => h.half (ix1 e)) d (fun s => xsF (ix1 s)) _ (fun k => wsF (ix2 k o))).symm

section
open Cert.KernelIdeal Cert.KernelIdeal.Gen

/-- The first result's arithmetic, over any arrays. -/
theorem out_gen (agg v25 : Vec Ideal S256x768 .f32) (v22 : Vec Ideal S256x128 .f32) (ha : agg = k0_pay10 v22 v25) (x x' : Vec Ideal S256x4096 .i8)
    (r r' : Vec Ideal S4096x768 .fp8e4m3) (xs xs' : Vec Ideal S256 .f32) (wrs wrs' bias bias' : Vec Ideal S768 .f32)
    (hx : x' = x) (hr : r' = r) (hxs : xs' = xs) (hwrs : wrs' = wrs) (hbias : bias' = bias) :
    Cert.ReferenceIdeal.Ref.q109 (F := Ideal) agg (fun i => Ideal.ofBits .fp8e4m3 (x' i)) (fun i => (r' i : EReal)) xs' wrs' bias'
      = k0_pay11 (F := Ideal) (bitcastToFloat (F := Ideal) .fp8e4m3 x) r (shapeCast S256x1 xs shapeCasts_S256_S256x1)
        (shapeCast S1x768 wrs shapeCasts_S768_S1x768) v22 v25 (shapeCast S1x768 bias shapeCasts_S768_S1x768) := by
  subst hx hr hxs hwrs hbias
  funext j
  obtain ⟨d, o, rfl⟩ : ∃ (d : Fin 256) (o : Fin 768), j = ix2 d o := ⟨j 0, j 1, by funext k; fin_cases k <;> rfl⟩
  have e4 : shapeCast S256x1 xs' shapeCasts_S256_S256x1 (ix2 d (0 : Fin 1)) = xs' (ix1 d) := by pointwise
  have e9 : ∀ b : Vec Ideal S768 .f32, shapeCast S1x768 b shapeCasts_S768_S1x768 (ix2 (0 : Fin 1) o) = b (ix1 o) := fun b => by pointwise
  rw [Cert.KernelIdeal.Step.pay11_read, e4, e9, e9, ha]
  exact Cert.ReferenceIdeal.Ref.q109_read _ _ _ _ _ _ d o
end

/-- The first results agree. -/
theorem out_eq (ha : Cert.ReferenceIdeal.Ref.AGG m' c = Cert.KernelIdeal.Run.AGG m c)
    (h0 : ra m' c Cert.ReferenceIdeal.main_arg0 = ka m c Cert.KernelIdeal.main_arg0) (h1 : ra m' c Cert.ReferenceIdeal.main_arg1 = ka m c Cert.KernelIdeal.main_arg1)
    (h7 : ra m' c Cert.ReferenceIdeal.main_arg7 = ka m c Cert.KernelIdeal.main_arg7) (h8 : ra m' c Cert.ReferenceIdeal.main_arg8 = ka m c Cert.KernelIdeal.main_arg8)
    (h9 : ra m' c Cert.ReferenceIdeal.main_arg9 = ka m c Cert.KernelIdeal.main_arg9) :
    Cert.ReferenceIdeal.Ref.OUT m' c = Cert.KernelIdeal.Run.OUT m c := by
  unfold Cert.ReferenceIdeal.Ref.OUT Cert.KernelIdeal.Run.OUT Cert.ReferenceIdeal.Ref.X Cert.ReferenceIdeal.Ref.R
  rw [Cert.KernelIdeal.Run.iblk5_eq, Cert.KernelIdeal.Run.iblk8_eq, Cert.KernelIdeal.Run.iblk4_eq, Cert.KernelIdeal.Run.iblk9_eq, Cert.KernelIdeal.Run.iblk10_eq,
    Cert.KernelIdeal.Run.V_main_v0, Cert.KernelIdeal.Gen.V_main_arg7, Cert.KernelIdeal.Run.V_main_v5, Cert.KernelIdeal.Run.V_main_v6, Cert.KernelIdeal.Run.V_main_v7]
  exact out_gen _ _ _ ha _ _ _ _ _ _ _ _ _ _ h0 h7 h1 h8 h9

end Cert.Final

end
-- ==== Proof.lean ====
/-
  The proof of the claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_targets_in_range
public import proofs.«01_k».proof.Proof.Gen.Pre_finite_data
public import proofs.«01_k».proof.Proof.RunI
public import proofs.«01_k».proof.Proof.Same
public import proofs.«01_k».proof.Proof.KRead
public import proofs.«01_k».proof.Proof.Pre
public import proofs.«01_k».proof.Proof.Final
public import Idealize.ShloMosaic.Adequacy
public import Idealize.ShloMosaic.Init

@[expose] public section

noncomputable section

namespace Cert.Proof

open Idealize.ShloMosaic Idealize.SL.Sem Cert.Kernel

section

variable {F : FTy → Type} [FloatOps F] (m : (ℓ : Loc Cert.KernelIdeal.nD Cert.KernelIdeal.τ Cert.KernelIdeal.sig) → Buf (Elt F) ℓ)

theorem dstOk (c : Dev Cert.KernelIdeal.nD) (h : ∀ k, BitVec.toNat ((m ((c.tc : Thread Cert.KernelIdeal.nD Cert.KernelIdeal.τ).loc Cert.KernelIdeal.main_arg3) : Vec F Cert.KernelIdeal.S3072 .i32) k) < 256) : Cert.KernelIdeal.Run.DstOk m c := by
  intro k
  rw [Cert.KernelIdeal.Run.iblk1_eq, Cert.KernelIdeal.Gen.V_main_arg3]
  exact h k

end

theorem claim : Cert.Claim := ⟨Cert.Kernel.Gen.facts, Cert.KernelIdeal.Gen.facts, Cert.ReferenceIdeal.Gen.facts, Cert.Pre_targets_in_range.Gen.facts, Cert.Pre_finite_data.Gen.facts,
  fun m ρ h => by
    rw [Cert.Same.defs_eq, Cert.Same.main_eq]
    exact Cert.KernelIdeal.Run.frame (F := Bits) m ρ fun c => dstOk m c fun k => Cert.Spline.pre_targets _ _ _ _ _ _ _ _ _ _ (h c) k,
  fun m ρ h => Cert.KernelIdeal.Run.frame m ρ fun c => dstOk m c fun k => Cert.Spline.pre_targets _ _ _ _ _ _ _ _ _ _ (h c) k,
  fun m ρ h => Cert.KernelIdeal.Run.frame m ρ fun c => dstOk m c (Cert.Spline.pre_finite _ _ _ _ _ _ _ _ _ _ (h c)).dst,
  fun m ρ _ => Cert.ReferenceIdeal.Gen.frame m ρ,
  fun m ρ _ => Cert.ReferenceIdeal.Gen.frame m ρ,
  trivial,
  fun m ρ m' ρ' h e => by
    have hf := fun c => Cert.Spline.pre_finite _ _ _ _ _ _ _ _ _ _ (h c)
    refine ⟨fun c => Cert.KernelIdeal.Run.OUT m c, fun c => Cert.KernelIdeal.Run.AGG m c, Cert.Final.kernel_run m ρ fun c => dstOk m c (hf c).dst, ?_⟩
    refine (θ_run _ _ _).mono (fun r g c => ?_) (Cert.ReferenceIdeal.Ref.run m' ρ')
    obtain ⟨g0, g1, gs⟩ := g c
    obtain ⟨h0, h1, h2, h3, h4, h5, h6, h7, h8, h9⟩ := e c
    have ha := Cert.Final.agg_eq m m' c (hf c) h0 h1 h2 h3 h4 h5 h6
    exact ⟨g0.trans (Cert.Final.out_eq m m' c ha h0 h1 h7 h8 h9), g1.trans ha, gs⟩⟩

end Cert.Proof

end
